-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_clip_is_idle [hKernelIdeal : Cert.KernelIdeal.Facts] [hClippedIdeal : Cert.ClippedIdeal.Facts] [hOn_clip_is_idle : Cert.On_clip_is_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 256]⟩ : Shape).Idx, (Layout.block ⟨2, ![1024, 256]⟩ ⟨2, ![1024, 1024]⟩ 1 4 c ((Cert.On_clip_is_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![1024, 256]⟩ : Shape).Idx → _) i = 1#1 → r.2.mem ((c.tc : Thread Cert.KernelIdeal.nD Cert.KernelIdeal.τ).loc Cert.KernelIdeal.main_v1) i = (Layout.block ⟨2, ![1024, 256]⟩ ⟨2, ![1024, 1024]⟩ 1 4 c v0 : (⟨2, ![1024, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![1024, 1024]⟩ : Shape).Idx, (Cert.On_clip_is_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v8) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_clip_is_idle : Cert.On_clip_is_idle.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_clip_is_idle (hKernelIdeal := hKernelIdeal) (hClippedIdeal := hClippedIdeal) (hOn_clip_is_idle := hOn_clip_is_idle)
-- ==== On_clip_is_idle.lean ====
abbrev S1024x1024 : Shape := ⟨2, ![1024, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .bf16) (main_arg1 : FVec F S1024x1024 .bf16) : IVec S1024x1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := (fun l r => Host.dotGeneral dot_S1024x1024_S1024x1024_S1024x1024_1_0_0_1_n_n none l r) main_v0 main_v1
  let main_v3 : FVec F S1024x1024 .f32 := Host.absf main_v2
  let main_cst : FVec F S_ .f32 := constant S_ .f32 0x42700000#32
  let main_v4 : FVec F S1024x1024 .f32 := broadcastInDim S1024x1024 ![] bcast_S_S1024x1024 main_cst
  let main_v5 : IVec S1024x1024 1 := cmpf .ole main_v3 main_v4
  main_v5
-- ==== Kernel.lean ====
abbrev S256x1024 : Shape := ⟨2, ![256, 1024]⟩
abbrev S1024x1024 : Shape := ⟨2, ![1024, 1024]⟩
abbrev S1024x256 : Shape := ⟨2, ![1024, 256]⟩
abbrev S3x256x256 : Shape := ⟨3, ![3, 256, 256]⟩
abbrev S4x256x256 : Shape := ⟨3, ![4, 256, 256]⟩
abbrev S6 : Shape := ⟨1, ![6]⟩
abbrev S8 : Shape := ⟨1, ![8]⟩
abbrev S_ : Shape := ⟨0, ![]⟩
abbrev S1024x128 : Shape := ⟨2, ![1024, 128]⟩
abbrev S256x128 : Shape := ⟨2, ![256, 128]⟩
abbrev S1x256x128 : Shape := ⟨3, ![1, 256, 128]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x256, .f32⟩
  | .local _ .vmem, ⟨0, _⟩ => ⟨S256x1024, .bf16⟩
  | .local _ .vmem, ⟨1, _⟩ => ⟨S1024x1024, .bf16⟩
  | .local _ .vmem, ⟨2, _⟩ => ⟨S1024x256, .f32⟩
  | .local _ .vmem, ⟨3, _⟩ => ⟨S3x256x256, .bf16⟩
  | .local _ .vmem, ⟨4, _⟩ => ⟨S4x256x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_16 : BitVec 32 := 0#32
  let c0_i32_14 : BitVec 32 := 0#32
  let c1_i32_15 : BitVec 32 := 1#32
  let v28 : BitVec 32 := Scalar.muli c0_i32_14 c1_i32_15
  let v29 : BitVec 32 := Scalar.addi c0_i32_16 v28
  v29.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_16 : BitVec 32 := 0#32
  let c1_i32_14 : BitVec 32 := 1#32
  let c1_i32_15 : BitVec 32 := 1#32
  let v28 : BitVec 32 := Scalar.muli c1_i32_14 c1_i32_15
  let v29 : BitVec 32 := Scalar.addi c0_i32_16 v28
  v29.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_16 : BitVec 32 := 0#32
  let c2_i32_14 : BitVec 32 := 2#32
  let c1_i32_15 : BitVec 32 := 1#32
  let v28 : BitVec 32 := Scalar.muli c2_i32_14 c1_i32_15
  let v29 : BitVec 32 := Scalar.addi c0_i32_16 v28
  v29.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_16 : BitVec 32 := 0#32
  let c3_i32_14 : BitVec 32 := 3#32
  let c1_i32_15 : BitVec 32 := 1#32
  let v28 : BitVec 32 := Scalar.muli c3_i32_14 c1_i32_15
  let v29 : BitVec 32 := Scalar.addi c0_i32_16 v28
  v29.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v16 : BitVec 1 := Scalar.cmpi .eq v2 c0_i32_5
  let v17 : BitVec 32 := Scalar.extui v16
  let c0_i32_6 : BitVec 32 := 0#32
  let v18 : BitVec 1 := Scalar.cmpi .ne v17 c0_i32_6
  v18

def k0_dev5 : Nat :=
  let c0_i32_25 : BitVec 32 := 0#32
  let c2_i32_23 : BitVec 32 := 2#32
  let c1_i32_24 : BitVec 32 := 1#32
  let v39 : BitVec 32 := Scalar.muli c2_i32_23 c1_i32_24
  let v40 : BitVec 32 := Scalar.addi c0_i32_25 v39
  v40.toNat
def k0_dev6 : Nat :=
  let c0_i32_39 : BitVec 32 := 0#32
  let c2_i32_37 : BitVec 32 := 2#32
  let c1_i32_38 : BitVec 32 := 1#32
  let v58 : BitVec 32 := Scalar.muli c2_i32_37 c1_i32_38
  let v59 : BitVec 32 := Scalar.addi c0_i32_39 v58
  v59.toNat
def k0_dev7 : Nat :=
  let c0_i32_53 : BitVec 32 := 0#32
  let c1_i32_51 : BitVec 32 := 1#32
  let c1_i32_52 : BitVec 32 := 1#32
  let v77 : BitVec 32 := Scalar.muli c1_i32_51 c1_i32_52
  let v78 : BitVec 32 := Scalar.addi c0_i32_53 v77
  v78.toNat
def k0_dev8 : Nat :=
  let c0_i32_69 : BitVec 32 := 0#32
  let c1_i32_67 : BitVec 32 := 1#32
  let c1_i32_68 : BitVec 32 := 1#32
  let v96 : BitVec 32 := Scalar.muli c1_i32_67 c1_i32_68
  let v97 : BitVec 32 := Scalar.addi c0_i32_69 v96
  v97.toNat
def k0_dev9 : Nat :=
  let c0_i32_83 : BitVec 32 := 0#32
  let c3_i32_81 : BitVec 32 := 3#32
  let c1_i32_82 : BitVec 32 := 1#32
  let v115 : BitVec 32 := Scalar.muli c3_i32_81 c1_i32_82
  let v116 : BitVec 32 := Scalar.addi c0_i32_83 v115
  v116.toNat
def k0_dev10 : Nat :=
  let c0_i32_98 : BitVec 32 := 0#32
  let c3_i32_96 : BitVec 32 := 3#32
  let c1_i32_97 : BitVec 32 := 1#32
  let v134 : BitVec 32 := Scalar.muli c3_i32_96 c1_i32_97
  let v135 : BitVec 32 := Scalar.addi c0_i32_98 v134
  v135.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v19 : BitVec 1 := Scalar.cmpi .eq v2 c1_i32_7
  let v20 : BitVec 32 := Scalar.extui v19
  let c0_i32_8 : BitVec 32 := 0#32
  let v21 : BitVec 1 := Scalar.cmpi .ne v20 c0_i32_8
  v21

def k0_dev11 : Nat :=
  let c0_i32_25 : BitVec 32 := 0#32
  let c3_i32_23 : BitVec 32 := 3#32
  let c1_i32_24 : BitVec 32 := 1#32
  let v39 : BitVec 32 := Scalar.muli c3_i32_23 c1_i32_24
  let v40 : BitVec 32 := Scalar.addi c0_i32_25 v39
  v40.toNat
def k0_dev12 : Nat :=
  let c0_i32_39 : BitVec 32 := 0#32
  let c3_i32_37 : BitVec 32 := 3#32
  let c1_i32_38 : BitVec 32 := 1#32
  let v58 : BitVec 32 := Scalar.muli c3_i32_37 c1_i32_38
  let v59 : BitVec 32 := Scalar.addi c0_i32_39 v58
  v59.toNat
def k0_dev13 : Nat :=
  let c0_i32_53 : BitVec 32 := 0#32
  let c2_i32_51 : BitVec 32 := 2#32
  let c1_i32_52 : BitVec 32 := 1#32
  let v77 : BitVec 32 := Scalar.muli c2_i32_51 c1_i32_52
  let v78 : BitVec 32 := Scalar.addi c0_i32_53 v77
  v78.toNat
def k0_dev14 : Nat :=
  let c0_i32_69 : BitVec 32 := 0#32
  let c2_i32_67 : BitVec 32 := 2#32
  let c1_i32_68 : BitVec 32 := 1#32
  let v96 : BitVec 32 := Scalar.muli c2_i32_67 c1_i32_68
  let v97 : BitVec 32 := Scalar.addi c0_i32_69 v96
  v97.toNat
def k0_dev15 : Nat :=
  let c0_i32_84 : BitVec 32 := 0#32
  let c0_i32_82 : BitVec 32 := 0#32
  let c1_i32_83 : BitVec 32 := 1#32
  let v115 : BitVec 32 := Scalar.muli c0_i32_82 c1_i32_83
  let v116 : BitVec 32 := Scalar.addi c0_i32_84 v115
  v116.toNat
def k0_dev16 : Nat :=
  let c0_i32_100 : BitVec 32 := 0#32
  let c0_i32_98 : BitVec 32 := 0#32
  let c1_i32_99 : BitVec 32 := 1#32
  let v134 : BitVec 32 := Scalar.muli c0_i32_98 c1_i32_99
  let v135 : BitVec 32 := Scalar.addi c0_i32_100 v134
  v135.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v22 : BitVec 1 := Scalar.cmpi .eq v2 c2_i32_9
  let v23 : BitVec 32 := Scalar.extui v22
  let c0_i32_10 : BitVec 32 := 0#32
  let v24 : BitVec 1 := Scalar.cmpi .ne v23 c0_i32_10
  v24

def k0_dev17 : Nat :=
  let c0_i32_26 : BitVec 32 := 0#32
  let c0_i32_24 : BitVec 32 := 0#32
  let c1_i32_25 : BitVec 32 := 1#32
  let v39 : BitVec 32 := Scalar.muli c0_i32_24 c1_i32_25
  let v40 : BitVec 32 := Scalar.addi c0_i32_26 v39
  v40.toNat
def k0_dev18 : Nat :=
  let c0_i32_41 : BitVec 32 := 0#32
  let c0_i32_39 : BitVec 32 := 0#32
  let c1_i32_40 : BitVec 32 := 1#32
  let v58 : BitVec 32 := Scalar.muli c0_i32_39 c1_i32_40
  let v59 : BitVec 32 := Scalar.addi c0_i32_41 v58
  v59.toNat
def k0_dev19 : Nat :=
  let c0_i32_55 : BitVec 32 := 0#32
  let c3_i32_53 : BitVec 32 := 3#32
  let c1_i32_54 : BitVec 32 := 1#32
  let v77 : BitVec 32 := Scalar.muli c3_i32_53 c1_i32_54
  let v78 : BitVec 32 := Scalar.addi c0_i32_55 v77
  v78.toNat
def k0_dev20 : Nat :=
  let c0_i32_71 : BitVec 32 := 0#32
  let c3_i32_69 : BitVec 32 := 3#32
  let c1_i32_70 : BitVec 32 := 1#32
  let v96 : BitVec 32 := Scalar.muli c3_i32_69 c1_i32_70
  let v97 : BitVec 32 := Scalar.addi c0_i32_71 v96
  v97.toNat
def k0_dev21 : Nat :=
  let c0_i32_85 : BitVec 32 := 0#32
  let c1_i32_83 : BitVec 32 := 1#32
  let c1_i32_84 : BitVec 32 := 1#32
  let v115 : BitVec 32 := Scalar.muli c1_i32_83 c1_i32_84
  let v116 : BitVec 32 := Scalar.addi c0_i32_85 v115
  v116.toNat
def k0_dev22 : Nat :=
  let c0_i32_100 : BitVec 32 := 0#32
  let c1_i32_98 : BitVec 32 := 1#32
  let c1_i32_99 : BitVec 32 := 1#32
  let v134 : BitVec 32 := Scalar.muli c1_i32_98 c1_i32_99
  let v135 : BitVec 32 := Scalar.addi c0_i32_100 v134
  v135.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_11 : BitVec 32 := 3#32
  let v25 : BitVec 1 := Scalar.cmpi .eq v2 c3_i32_11
  let v26 : BitVec 32 := Scalar.extui v25
  let c0_i32_12 : BitVec 32 := 0#32
  let v27 : BitVec 1 := Scalar.cmpi .ne v26 c0_i32_12
  v27

def k0_dev23 : Nat :=
  let c0_i32_25 : BitVec 32 := 0#32
  let c1_i32_23 : BitVec 32 := 1#32
  let c1_i32_24 : BitVec 32 := 1#32
  let v39 : BitVec 32 := Scalar.muli c1_i32_23 c1_i32_24
  let v40 : BitVec 32 := Scalar.addi c0_i32_25 v39
  v40.toNat
def k0_dev24 : Nat :=
  let c0_i32_39 : BitVec 32 := 0#32
  let c1_i32_37 : BitVec 32 := 1#32
  let c1_i32_38 : BitVec 32 := 1#32
  let v58 : BitVec 32 := Scalar.muli c1_i32_37 c1_i32_38
  let v59 : BitVec 32 := Scalar.addi c0_i32_39 v58
  v59.toNat
def k0_dev25 : Nat :=
  let c0_i32_54 : BitVec 32 := 0#32
  let c0_i32_52 : BitVec 32 := 0#32
  let c1_i32_53 : BitVec 32 := 1#32
  let v77 : BitVec 32 := Scalar.muli c0_i32_52 c1_i32_53
  let v78 : BitVec 32 := Scalar.addi c0_i32_54 v77
  v78.toNat
def k0_dev26 : Nat :=
  let c0_i32_71 : BitVec 32 := 0#32
  let c0_i32_69 : BitVec 32 := 0#32
  let c1_i32_70 : BitVec 32 := 1#32
  let v96 : BitVec 32 := Scalar.muli c0_i32_69 c1_i32_70
  let v97 : BitVec 32 := Scalar.addi c0_i32_71 v96
  v97.toNat
def k0_dev27 : Nat :=
  let c0_i32_85 : BitVec 32 := 0#32
  let c2_i32_83 : BitVec 32 := 2#32
  let c1_i32_84 : BitVec 32 := 1#32
  let v115 : BitVec 32 := Scalar.muli c2_i32_83 c1_i32_84
  let v116 : BitVec 32 := Scalar.addi c0_i32_85 v115
  v116.toNat
def k0_dev28 : Nat :=
  let c0_i32_100 : BitVec 32 := 0#32
  let c2_i32_98 : BitVec 32 := 2#32
  let c1_i32_99 : BitVec 32 := 1#32
  let v134 : BitVec 32 := Scalar.muli c2_i32_98 c1_i32_99
  let v135 : BitVec 32 := Scalar.addi c0_i32_100 v134
  v135.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ClippedIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Program.lean ====
/-
The kernel's program with its device as a parameter.

The printed kernel tests the device number and holds four straight-line schedules, one per device. Here the schedule is
written once, for a device `c`, with every offset, semaphore and peer a function of `c`; `body_eq` says that on each
device the printed body runs exactly it.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.A2A

open Cert.KernelIdeal Cert.KernelIdeal.Gen

open Idealize.ShloMosaic Idealize.ShloMosaic.TcCoe Idealize.SL Idealize.SL.Sem

variable {F : FTy → Type} [FloatOps F]

/-- A program of the kernel's body. -/
abbrev KProg : Type 1 := Prog (TpuEff nD τ sig (Elt F) Λ₀ .tc) PUnit

/-! ## The indices

`t` is one of the three blocks a device sends, in the order it sends them; `h` one of the two column halves. -/

/-- How many devices further round the mesh block `t` goes; also the slot of the receive buffer it lands in. -/
def hop (t : Fin 3) : Fin 4 := ![2, 1, 3] t
/-- The device `c`'s block `t` goes to. -/
def dest (c : Dev nD) (t : Fin 3) : Dev nD := ⟨(c.val + (hop t).val) % 4, Nat.mod_lt _ (by decide)⟩
/-- The device block `t` comes to `c` from. -/
def orig (c : Dev nD) (t : Fin 3) : Dev nD := ⟨(c.val + 4 - (hop t).val) % 4, Nat.mod_lt _ (by decide)⟩

/-- A block comes from where it was sent, -/
theorem orig_dest (c : Dev nD) (t : Fin 3) : orig (dest c t) t = c := by revert c t; decide
/-- and goes to where it comes in; -/
theorem dest_orig (c : Dev nD) (t : Fin 3) : dest (orig c t) t = c := by revert c t; decide

/-- no block comes from the device itself. -/
theorem orig_ne (c : Dev nD) (t : Fin 3) : orig c t ≠ c := by revert c t; decide

/-! ## The buffers and the rectangles -/

/-- The staged block of `x`. -/
abbrev xM : Memref sig .tc .vmem S256x1024 .bf16 := Memref.whole cc0_stg0_0
/-- The staged `w`. -/
abbrev wM : Memref sig .tc .vmem S1024x1024 .bf16 := Memref.whole cc0_stg1_0
/-- The staged result block. -/
abbrev oM : Memref sig .tc .vmem S1024x256 .f32 := Memref.whole cc0_stg2_0
/-- The send buffer. -/
abbrev sM : Memref sig .tc .vmem S3x256x256 .bf16 := Memref.whole cc0_scratch0
/-- The receive buffer. -/
abbrev rM : Memref sig .tc .vmem S4x256x256 .bf16 := Memref.whole cc0_scratch1

/-- The half slots lie in the send buffer; -/
theorem sRect_inb (t : Fin 3) (h : Fin 2) : ∀ a, (![t.val, 0, 128 * h.val] : Fin 3 → Nat) a + S1x256x128.size a ≤ S3x256x256.size a := by
  revert t h; decide
/-- in the receive buffer; -/
theorem rRect_inb (r : Fin 4) (h : Fin 2) : ∀ a, (![r.val, 0, 128 * h.val] : Fin 3 → Nat) a + S1x256x128.size a ≤ S4x256x256.size a := by
  revert r h; decide
/-- the columns lie in `w`; -/
theorem wRect_inb (j : Dev nD) (h : Fin 2) : ∀ a, (![0, 256 * j.val + 128 * h.val] : Fin 2 → Nat) a + S1024x128.size a ≤ S1024x1024.size a := by
  revert j h; decide
/-- the half blocks lie in the result. -/
theorem oRect_inb (s : Dev nD) (h : Fin 2) : ∀ a, (![256 * s.val, 128 * h.val] : Fin 2 → Nat) a + S256x128.size a ≤ S1024x256.size a := by
  revert s h; decide

/-- Half `h` of slot `t` of the send buffer; -/
abbrev sRect (t : Fin 3) (h : Fin 2) : Rect S3x256x256 := Rect.unit (s := S3x256x256) ![t.val, 0, 128 * h.val] S1x256x128.size (sRect_inb t h)
/-- half `h` of slot `r` of the receive buffer; -/
abbrev rRect (r : Fin 4) (h : Fin 2) : Rect S4x256x256 := Rect.unit (s := S4x256x256) ![r.val, 0, 128 * h.val] S1x256x128.size (rRect_inb r h)
/-- half `h` of the columns of `w` that make device `j`'s columns of the result; -/
abbrev wRect (j : Dev nD) (h : Fin 2) : Rect S1024x1024 := Rect.unit (s := S1024x1024) ![0, 256 * j.val + 128 * h.val] S1024x128.size (wRect_inb j h)
/-- half `h` of the rows of the result block that device `s` computes. -/
abbrev oRect (s : Dev nD) (h : Fin 2) : Rect S1024x256 := Rect.unit (s := S1024x256) ![256 * s.val, 128 * h.val] S256x128.size (oRect_inb s h)

/-- A half slot of the send buffer is of packed rows, -/
theorem sRect_packed (t : Fin 3) (h : Fin 2) : (sRect t h).PackedRows (EltTy.packing .bf16) := by
  revert t h; decide
/-- and of whole words; -/
theorem sRect_words (t : Fin 3) (h : Fin 2) : (sRect t h).WholeWords (EltTy.packing .bf16) := by
  revert t h; decide
/-- so is one of the receive buffer. -/
theorem rRect_words (r : Fin 4) (h : Fin 2) : (rRect r h).WholeWords (EltTy.packing .bf16) := by
  revert r h; decide

/-- A half slot of the send buffer as a transfer names it; -/
abbrev sPc (t : Fin 3) (h : Fin 2) : Memref sig .tc .vmem S256x128 .bf16 :=
  (sM.slice (sRect t h) (fun _ => rfl)).squeeze S256x128 squeezes_S1x256x128_S256x128
/-- and of the receive buffer. -/
abbrev rPc (r : Fin 4) (h : Fin 2) : Memref sig .tc .vmem S256x128 .bf16 :=
  (rM.slice (rRect r h) (fun _ => rfl)).squeeze S256x128 squeezes_S1x256x128_S256x128

/-- As transfers name them they are of whole words too: -/
theorem sPc_words (t : Fin 3) (h : Fin 2) : (sPc t h).view.WordExact :=
  ((Memref.isWhole_whole cc0_scratch0).wordExact_slice rfl _ (sRect_words t h)).reshape _ _
/-- in both buffers. -/
theorem rPc_words (r : Fin 4) (h : Fin 2) : (rPc r h).view.WordExact :=
  ((Memref.isWhole_whole cc0_scratch1).wordExact_slice rfl _ (rRect_words r h)).reshape _ _

/-! ## The semaphores -/

/-- The semaphores named are among the six of the senders; -/
theorem sSem_inb (t : Fin 3) (h : Fin 2) : ∀ a, (![2 * t.val + h.val] : Fin 1 → Nat) a + S1.size a ≤ S6.size a := by
  revert t h; decide
/-- and among the eight of the receivers. -/
theorem rSem_inb (r : Fin 4) (h : Fin 2) : ∀ a, (![2 * r.val + h.val] : Fin 1 → Nat) a + S1.size a ≤ S8.size a := by
  revert r h; decide

/-- The barrier semaphore. -/
abbrev barS : Sem sig := (SemArray.scalar (sig.barrier 0 rfl) : Sems sig S_).sem
/-- The semaphore that a transfer signals at its source. -/
abbrev sendS (t : Fin 3) (h : Fin 2) : DmaSem sig :=
  ((cc0_scratch2.slice (Rect.unit (s := S6) ![2 * t.val + h.val] S1.size (sSem_inb t h)) : DmaSems sig S1).squeeze S_ squeezes_S1_S_ : DmaSems sig S_).sem
/-- The semaphore that it signals at its target. -/
abbrev recvS (r : Fin 4) (h : Fin 2) : DmaSem sig :=
  ((cc0_scratch3.slice (Rect.unit (s := S8) ![2 * r.val + h.val] S1.size (rSem_inb r h)) : DmaSems sig S1).squeeze S_ squeezes_S1_S_ : DmaSems sig S_).sem

/-! ## The stretches of the schedule -/

/-- Compute half `h` of block `t`, into its half slot of the send buffer. -/
def stageOps (c : Dev nD) (t : Fin 3) (h : Fin 2) (x : Vec F S256x1024 .bf16) (k : KProg (F := F)) : KProg (F := F) :=
  .op (.load wM (wRect (dest c t) h).toLoadRect (View.loadsAt_vmem h_S1024x128)) fun w =>
  .op (.load sM (sRect t h).toLoadRect (View.loadsAt_vmem h_S1x256x128)) fun _ =>
  .op (.store sM (sRect t h) (k0_pay2 x w) Finset.univ
    (View.stores_vmem h_S1x256x128 ((Memref.isWhole_whole cc0_scratch0).storeExact_slice rfl _ (sRect_packed t h)) (fun _ => rfl)) (.inl rfl)) fun _ => k

/-- Start the transfer of half `h` of block `t`. -/
def sendOps (c : Dev nD) (t : Fin 3) (h : Fin 2) (k : KProg (F := F)) : KProg (F := F) :=
  .op (.enqueueDma (sPc t h) (.remote (Dev.tc (dest c t)) (rPc (hop t) h) (.dma (sendS t h))) (.dma (recvS (hop t) h)) (sPc_words t h) (rPc_words (hop t) h)
    ⟨⟨rfl, Or.inl rfl⟩, trivial⟩) fun _ => k

/-- Compute half `h` of the block the device keeps, into the result. -/
def ownOps (c : Dev nD) (h : Fin 2) (x : Vec F S256x1024 .bf16) (k : KProg (F := F)) : KProg (F := F) :=
  .op (.load wM (wRect c h).toLoadRect (View.loadsAt_vmem h_S1024x128)) fun w =>
  .op (.load oM (oRect c h).toLoadRect (View.loadsAt_vmem h_S256x128)) fun _ =>
  .op (.store oM (oRect c h) (k0_pay10 (k0_pay1 x) w) Finset.univ (View.stores_vmem_bits_univ h_S256x128 rfl) (.inl rfl)) fun _ => k

/-- Wait for half `h` of the block `t` that comes in, and put it into the result. -/
def recvOps (c : Dev nD) (t : Fin 3) (h : Fin 2) (k : KProg (F := F)) : KProg (F := F) :=
  .op (.waitDma2 (recvS (hop t) h) (sPc t h) (rPc (hop t) h) (sPc_words t h) (rPc_words (hop t) h)) fun _ =>
  .op (.load rM (rRect (hop t) h).toLoadRect (View.loadsAt_vmem h_S1x256x128)) fun y =>
  .op (.load oM (oRect (orig c t) h).toLoadRect (View.loadsAt_vmem h_S256x128)) fun _ =>
  .op (.store oM (oRect (orig c t) h) (k0_pay11 y) Finset.univ (View.stores_vmem_bits_univ h_S256x128 rfl) (.inl rfl)) fun _ => k

/-- Wait until half `h` of block `t` has left. -/
def drainOps (t : Fin 3) (h : Fin 2) (k : KProg (F := F)) : KProg (F := F) :=
  .op (.waitDma2 (sendS t h) (rPc (hop t) h) (sPc t h) (rPc_words (hop t) h) (sPc_words t h)) fun _ => k

/-- Device `c`'s schedule after the entry signals. -/
def sched (c : Dev nD) : KProg (F := F) :=
  .op (.load xM (Rect.unit (s := S256x1024) ![0, 0] S256x1024.size inb_S256x1024_S256x1024_0_0).toLoadRect (View.loadsAt_vmem h_S256x1024)) fun x =>
  stageOps c 0 0 x <| .op (.semWait barS (3#32).toInt) fun _ => sendOps c 0 0 <| stageOps c 0 1 x <| sendOps c 0 1 <|
  stageOps c 1 0 x <| sendOps c 1 0 <| stageOps c 1 1 x <| sendOps c 1 1 <|
  stageOps c 2 0 x <| sendOps c 2 0 <| stageOps c 2 1 x <| sendOps c 2 1 <|
  ownOps c 0 x <| ownOps c 1 x <|
  recvOps c 1 0 <| recvOps c 1 1 <| recvOps c 0 0 <| recvOps c 0 1 <| recvOps c 2 0 <| recvOps c 2 1 <|
  drainOps 0 0 <| drainOps 0 1 <| drainOps 1 0 <| drainOps 1 1 <| drainOps 2 0 <| drainOps 2 1 <| .ret ⟨⟩

/-- Signal the barrier semaphore of device `d`. -/
def signalOps (d : Dev nD) (k : KProg (F := F)) : KProg (F := F) :=
  .op (.semSignal (d, .tc) barS (1#32).toInt) fun _ => k

/-- The three other devices, in increasing order. -/
def other (c : Dev nD) (i : Fin 3) : Dev nD := Fin.succAbove (n := 3) c i

/-- Device `c`'s program: signal the three other devices, then the schedule. -/
def prog (c : Dev nD) : KProg (F := F) :=
  signalOps (other c 0) <| signalOps (other c 1) <| signalOps (other c 2) <| sched c

set_option maxRecDepth 65536 in
/-- On every device the printed body is: read the device's number, then that device's program. -/
theorem body_eq :
    cc0_body (F := F) xM (Memref.isWhole_whole _) wM (Memref.isWhole_whole _) oM (Memref.isWhole_whole _) sM (Memref.isWhole_whole _)
      rM (Memref.isWhole_whole _) cc0_scratch2 cc0_scratch3 = .op .deviceId fun d0 => prog d0 := by
  rw [cc0_body_eq_skeleton]
  unfold cc0_body_skel
  simp only [Prog.lift, Prog.bind_op, Prog.bind_ret]
  congr 1
  funext d0
  obtain rfl | rfl | rfl | rfl : d0 = (⟨0, by decide⟩ : Dev nD) ∨ d0 = ⟨1, by decide⟩ ∨ d0 = ⟨2, by decide⟩ ∨ d0 = ⟨3, by decide⟩ := by
    revert d0; decide
  · rw [dif_neg (by decide), dif_pos (by decide), dif_pos (by decide), dif_pos (by decide), dif_pos (by decide), dif_neg (by decide), dif_neg (by decide), dif_neg (by decide)]
    chain_rfl
  · rw [dif_pos (by decide), dif_neg (by decide), dif_pos (by decide), dif_pos (by decide), dif_neg (by decide), dif_pos (by decide), dif_neg (by decide), dif_neg (by decide)]
    chain_rfl
  · rw [dif_pos (by decide), dif_pos (by decide), dif_neg (by decide), dif_pos (by decide), dif_neg (by decide), dif_neg (by decide), dif_pos (by decide), dif_neg (by decide)]
    chain_rfl
  · rw [dif_pos (by decide), dif_pos (by decide), dif_pos (by decide), dif_neg (by decide), dif_neg (by decide), dif_neg (by decide), dif_neg (by decide), dif_pos (by decide)]
    chain_rfl

end Cert.A2A
-- ==== Proof.Pieces.lean ====
/-
The buffers cut in half slots.

A device's send buffer is six half slots, its receive buffer eight, its result block eight; each transfer, and each store,
touches exactly one of them. Here they are shown disjoint and to make up their buffer, and what one holds after a store is
computed. The values are named too: the half block a device computes, and the result block of a device.
-/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.A2A

open Cert.KernelIdeal Cert.KernelIdeal.Gen

open Idealize.ShloMosaic Idealize.ShloMosaic.TcCoe Idealize.SL Idealize.SL.Sem

variable {F : FTy → Type} [FloatOps F]

/-- A slot of the send buffer and a half; -/
abbrev TH : Type := Fin 3 × Fin 2
/-- A slot of the receive buffer and a half; -/
abbrev RH : Type := Fin 4 × Fin 2
/-- a device and a half. -/
abbrev DH : Type := Dev nD × Fin 2

/-! ## The pieces as sets of elements -/

/-- The elements of a half slot of the send buffer; -/
abbrev sSet (p : TH) : Finset S3x256x256.Idx := (sRect p.1 p.2).set
/-- of the receive buffer; -/
abbrev rSet (p : RH) : Finset S4x256x256.Idx := (rRect p.1 p.2).set
/-- and of a half block of the result. -/
abbrev oSet (p : DH) : Finset S1024x256.Idx := (oRect p.1 p.2).set

/-- A transfer out of a half slot reads its elements; -/
theorem sPc_set (t : Fin 3) (h : Fin 2) : (sPc t h).view.set = sSet (t, h) :=
  (View.set_reshape _ _).trans (View.set_slice_whole cc0_scratch0 (sRect t h))
/-- one into a half slot writes its elements; -/
theorem rPc_set (r : Fin 4) (h : Fin 2) : (rPc r h).view.set = rSet (r, h) :=
  (View.set_reshape _ _).trans (View.set_slice_whole cc0_scratch1 (rRect r h))
/-- an access to a half block of the result is to its elements. -/
theorem oPc_set (s : Dev nD) (h : Fin 2) : (oM.access (oRect s h)).set = oSet (s, h) :=
  View.set_slice_whole cc0_stg2_0 (oRect s h)

/-- A load from a half slot of the send buffer reads its elements; -/
theorem sLoad_set (t : Fin 3) (h : Fin 2) : sM.view.setOn (sRect t h).toLoadRect.set = sSet (t, h) :=
  (View.set_slice _ _).symm.trans (View.set_slice_whole cc0_scratch0 (sRect t h))
/-- so does one from the receive buffer, -/
theorem rLoad_set (r : Fin 4) (h : Fin 2) : rM.view.setOn (rRect r h).toLoadRect.set = rSet (r, h) :=
  (View.set_slice _ _).symm.trans (View.set_slice_whole cc0_scratch1 (rRect r h))
/-- and from the result. -/
theorem oLoad_set (s : Dev nD) (h : Fin 2) : oM.view.setOn (oRect s h).toLoadRect.set = oSet (s, h) :=
  (View.set_slice _ _).symm.trans (View.set_slice_whole cc0_stg2_0 (oRect s h))
/-- A store into a half slot of the send buffer writes its elements; -/
theorem sStore_set (t : Fin 3) (h : Fin 2) : (sM.access (sRect t h)).setOn Finset.univ = sSet (t, h) :=
  View.set_slice_whole cc0_scratch0 (sRect t h)
/-- so does one into the result. -/
theorem oStore_set (s : Dev nD) (h : Fin 2) : (oM.access (oRect s h)).setOn Finset.univ = oSet (s, h) :=
  View.set_slice_whole cc0_stg2_0 (oRect s h)

/-! ## The pieces are disjoint and cover -/

/-- The columns of the two halves do not meet. -/
theorem half_apart {h h' : Fin 2} (n : h ≠ h') : 128 * h.val + 128 ≤ 128 * h'.val ∨ 128 * h'.val + 128 ≤ 128 * h.val := by
  have := Fin.val_ne_of_ne n; omega

/-- Different half slots of the send buffer share no element; -/
theorem sSet_disjoint (p p' : TH) (n : p ≠ p') : Disjoint (sSet p) (sSet p') := by
  obtain ⟨t, h⟩ := p; obtain ⟨t', h'⟩ := p'
  by_cases ht : t = t'
  · exact Rect.unit_disjoint (2 : Fin 3) (half_apart fun e : h = h' => n (by rw [ht, e]))
  · exact Rect.unit_disjoint (0 : Fin 3) (show t.val + 1 ≤ t'.val ∨ t'.val + 1 ≤ t.val by have := Fin.val_ne_of_ne ht; omega)

/-- nor do those of the receive buffer, -/
theorem rSet_disjoint (p p' : RH) (n : p ≠ p') : Disjoint (rSet p) (rSet p') := by
  obtain ⟨t, h⟩ := p; obtain ⟨t', h'⟩ := p'
  by_cases ht : t = t'
  · exact Rect.unit_disjoint (2 : Fin 3) (half_apart fun e : h = h' => n (by rw [ht, e]))
  · exact Rect.unit_disjoint (0 : Fin 3) (show t.val + 1 ≤ t'.val ∨ t'.val + 1 ≤ t.val by have := Fin.val_ne_of_ne ht; omega)

/-- nor the half blocks of the result. -/
theorem oSet_disjoint (p p' : DH) (n : p ≠ p') : Disjoint (oSet p) (oSet p') := by
  obtain ⟨s, h⟩ := p; obtain ⟨s', h'⟩ := p'
  by_cases hs : s = s'
  · exact Rect.unit_disjoint (1 : Fin 2) (half_apart fun e : h = h' => n (by rw [hs, e]))
  · exact Rect.unit_disjoint (0 : Fin 2) (show 256 * s.val + 256 ≤ 256 * s'.val ∨ 256 * s'.val + 256 ≤ 256 * s.val by
      have := Fin.val_ne_of_ne hs; omega)

/-- The half a column lies in. -/
def halfOf (n : ℕ) (hn : n < 256) : Fin 2 := ⟨n / 128, by omega⟩

/-- The half slots make up the send buffer; -/
theorem sSet_cover : Finset.univ.biUnion sSet = Finset.univ := by
  ext i
  simp only [Finset.mem_biUnion, Finset.mem_univ, true_and, iff_true]
  have h0 : (i 0).val < 3 := (i 0).isLt
  have h1 : (i 1).val < 256 := (i 1).isLt
  have h2 : (i 2).val < 256 := (i 2).isLt
  refine ⟨(⟨(i 0).val, h0⟩, halfOf _ h2), Rect.mem_set_unit.mpr fun a => ?_⟩
  fin_cases a
  · exact ⟨le_refl _, Nat.lt_succ_self _⟩
  · exact ⟨Nat.zero_le _, by show (i 1).val < 0 + 256; omega⟩
  · exact ⟨by show 128 * ((i 2).val / 128) ≤ (i 2).val; omega, by show (i 2).val < 128 * ((i 2).val / 128) + 128; omega⟩

/-- and the receive buffer; -/
theorem rSet_cover : Finset.univ.biUnion rSet = Finset.univ := by
  ext i
  simp only [Finset.mem_biUnion, Finset.mem_univ, true_and, iff_true]
  have h0 : (i 0).val < 4 := (i 0).isLt
  have h1 : (i 1).val < 256 := (i 1).isLt
  have h2 : (i 2).val < 256 := (i 2).isLt
  refine ⟨(⟨(i 0).val, h0⟩, halfOf _ h2), Rect.mem_set_unit.mpr fun a => ?_⟩
  fin_cases a
  · exact ⟨le_refl _, Nat.lt_succ_self _⟩
  · exact ⟨Nat.zero_le _, by show (i 1).val < 0 + 256; omega⟩
  · exact ⟨by show 128 * ((i 2).val / 128) ≤ (i 2).val; omega, by show (i 2).val < 128 * ((i 2).val / 128) + 128; omega⟩

/-- and the half blocks the result. -/
theorem oSet_cover : Finset.univ.biUnion oSet = Finset.univ := by
  ext i
  simp only [Finset.mem_biUnion, Finset.mem_univ, true_and, iff_true]
  have h0 : (i 0).val < 1024 := (i 0).isLt
  have h1 : (i 1).val < 256 := (i 1).isLt
  refine ⟨(⟨(i 0).val / 256, by show _ < 4; omega⟩, halfOf _ h1), Rect.mem_set_unit.mpr fun a => ?_⟩
  fin_cases a
  · exact ⟨by show 256 * ((i 0).val / 256) ≤ (i 0).val; omega, by show (i 0).val < 256 * ((i 0).val / 256) + 256; omega⟩
  · exact ⟨by show 128 * ((i 1).val / 128) ≤ (i 1).val; omega, by show (i 1).val < 128 * ((i 1).val / 128) + 128; omega⟩

/-! ## What is computed -/

variable (m : (ℓ : Loc nD τ sig) → Buf (Elt F) ℓ)

/-- Device `c`'s block of `x` as its staging buffer holds it; -/
def xstg (c : Dev nD) : Vec F S256x1024 .bf16 := (win0_0.blk (0 : Fin 1)).view.read (Elt F) (m ((c : Thread nD τ).loc main_arg0))
/-- and its copy of `w`. -/
def wstg (c : Dev nD) : Vec F S1024x1024 .bf16 := (win0_1.blk (0 : Fin 1)).view.read (Elt F) (m ((c : Thread nD τ).loc main_arg1))
/-- Half `h` of the columns of `w` that make device `j`'s columns of the result. -/
def wcols (c j : Dev nD) (h : Fin 2) : Vec F S1024x128 .bf16 := wM.view.readAt (Elt F) (wRect j h).toLoadRect (wstg m c)

/-- The half block device `c` computes for device `j`, as it is sent. -/
def blk (c j : Dev nD) (h : Fin 2) : Vec F S256x128 .bf16 :=
  shapeCast S256x128 (k0_pay2 (xstg m c) (wcols m c j h)) shapeCasts_S1x256x128_S256x128
/-- The half block of device `c`'s result that device `s` computes. -/
def outBlk (c s : Dev nD) (h : Fin 2) : Vec F S256x128 .f32 :=
  if s = c then k0_pay10 (k0_pay1 (xstg m c)) (wcols m c c h) else extf .f32 (blk m s c h) bitsLt_bf16_f32
/-- The result block of device `c`. -/
def outF (c : Dev nD) : Vec F S1024x256 .f32 := fun i =>
  outBlk m c ⟨(i 0).val / 256, by have : (i 0).val < 1024 := (i 0).isLt; show _ < 4; omega⟩ (halfOf (i 1).val (i 1).isLt)
    (fun a => ⟨(![(i 0).val % 256, (i 1).val % 128] : Fin 2 → ℕ) a, by
      fin_cases a
      · exact Nat.mod_lt _ (by decide)
      · exact Nat.mod_lt _ (by decide)⟩)

/-- After the store of its half block, the half of the rows of `s` of the result buffer agrees with the result. -/
theorem store_out (c s : Dev nD) (h : Fin 2) (f : (cc0_stg2_0 : Ref sig .tc).ty.Contents (Elt F)) :
    ∀ i ∈ oSet (s, h), (oM.access (oRect s h)).write (Elt F) f (outBlk m c s h) Finset.univ i = outF m c i := by
  intro i hi
  rw [← oPc_set] at hi
  obtain ⟨j, -, rfl⟩ := Finset.mem_map.mp hi
  have e : (oM.access (oRect s h)).write (Elt F) f (outBlk m c s h) Finset.univ ((oM.access (oRect s h)).emb j) = outBlk m c s h j :=
    congrFun (View.read_write_univ (v := oM.access (oRect s h)) f (outBlk m c s h)) j
  have h0 : (j 0).val < 256 := (j 0).isLt
  have h1 : (j 1).val < 128 := (j 1).isLt
  have e0 : (((oM.access (oRect s h)).emb j) 0).val = 256 * s.val + (j 0).val := by
    show 256 * s.val + 1 * (j 0).val = _; omega
  have e1 : (((oM.access (oRect s h)).emb j) 1).val = 128 * h.val + (j 1).val := by
    show 128 * h.val + 1 * (j 1).val = _; omega
  have hs : s.val < 4 := s.isLt
  refine e.trans ?_
  unfold outF
  congr 1
  · exact Fin.ext (by show s.val = _ / 256; rw [e0]; omega)
  · exact Fin.ext (by show h.val = _ / 128; rw [e1]; omega)
  · funext a
    fin_cases a
    · exact Fin.ext (by show (j 0).val = _ % 256; rw [e0]; omega)
    · exact Fin.ext (by show (j 1).val = _ % 128; rw [e1]; omega)

/-- What a transfer reads of a half slot just stored: the stored half block, its leading axis of one dropped. -/
theorem read_stage (t : Fin 3) (h : Fin 2) (f : (cc0_scratch0 : Ref sig .tc).ty.Contents (Elt F)) (w : Vec F S1x256x128 .bf16) :
    (sPc t h).view.read (Elt F) ((sM.access (sRect t h)).write (Elt F) f w Finset.univ) = shapeCast S256x128 w shapeCasts_S1x256x128_S256x128 := by
  show shapeCast S256x128 ((sM.access (sRect t h)).read (Elt F) ((sM.access (sRect t h)).write (Elt F) f w Finset.univ)) shapeCasts_S1x256x128_S256x128 = _
  rw [View.read_write_univ]

/-- What is put into the result of a half block that came in: that half block, widened. -/
theorem pay_recv (r : Fin 4) (h : Fin 2) (f : (cc0_scratch1 : Ref sig .tc).ty.Contents (Elt F)) :
    k0_pay11 (rM.view.readAt (Elt F) (rRect r h).toLoadRect f) = extf .f32 ((rPc r h).view.read (Elt F) f) bitsLt_bf16_f32 := rfl

end Cert.A2A
-- ==== Proof.Protocol.lean ====
/-
The protocol of the exchange: which semaphore is raised by whom, and what each raise hands over.

On each device there are thirteen cells. The barrier cell is raised once by every other device; the raise of device `d`
hands over the two half slots of `d`'s receive buffer this device will write. Each of the six send cells is raised once, by
this device's own transfer, and hands its half slot of the send buffer back. Each of the six receive cells is raised once,
by the transfer that comes in, and hands over the half slot it filled, at the half block the sender computed.
-/
module

public import proofs.«01_k».proof.Proof.Pieces

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra

The pipeline's copy, and the exchange's, whose duties are named by devices. -/

/-- The ghost state of the exchange; -/
abbrev UX : Type := URounds (GSem nD τ sig) (Dev nD)
/-- with the pipeline's. -/
abbrev UU : Type := UR sig nD τ × UX

local notation "𝕄" => MT nD τ sig Unit (Elt F) ℕ UU ℕ

/-- The pipeline's part of it; -/
abbrev EP : Emb (UR sig nD τ) (MT nD τ sig Unit (Elt F) ℕ UU ℕ) := embL
/-- the exchange's. -/
abbrev ER : Emb UX (MT nD τ sig Unit (Elt F) ℕ UU ℕ) := embR

/-! ## The cells -/

/-- The cells of a device: its barrier, its send cells, its receive cells. -/
abbrev CK : Type := Unit ⊕ (TH ⊕ TH)
/-- The semaphore of a cell. -/
abbrev csem : CK → SemLoc sig
  | .inl _ => .reg barS
  | .inr (.inl p) => .dma (sendS p.1 p.2)
  | .inr (.inr p) => .dma (recvS (hop p.1) p.2)
/-- A cell on its device; -/
abbrev cell (x : Dev nD × CK) : GSem nD τ sig := ((x.1 : Thread nD τ), csem x.2)
/-- the barrier cell, -/
abbrev barCell (c : Dev nD) : GSem nD τ sig := ((c : Thread nD τ), .reg barS)
/-- a send cell, -/
abbrev sendCell (c : Dev nD) (t : Fin 3) (h : Fin 2) : GSem nD τ sig := ((c : Thread nD τ), .dma (sendS t h))
/-- and a receive cell. -/
abbrev recvCell (c : Dev nD) (t : Fin 3) (h : Fin 2) : GSem nD τ sig := ((c : Thread nD τ), .dma (recvS (hop t) h))

/-- The cell a semaphore is, if it is one. -/
def decode : SemLoc sig → Option CK
  | .reg _ => some (.inl ())
  | .dma q => (![none, none, none,
      some (.inr (.inl (0, 0))), some (.inr (.inl (0, 1))), some (.inr (.inl (1, 0))), some (.inr (.inl (1, 1))),
      some (.inr (.inl (2, 0))), some (.inr (.inl (2, 1))), none, none,
      some (.inr (.inr (1, 0))), some (.inr (.inr (1, 1))), some (.inr (.inr (0, 0))), some (.inr (.inr (0, 1))),
      some (.inr (.inr (2, 0))), some (.inr (.inr (2, 1)))] : Fin 17 → Option CK) q

/-- A cell is read back from its semaphore; -/
theorem decode_csem (k : CK) : decode (csem k) = some k := by revert k; decide

/-- so different cells have different semaphores. -/
theorem cell_injective : Function.Injective cell := by
  rintro ⟨c, k⟩ ⟨c', k'⟩ e
  have h1 : c = c' := congrArg (fun g : GSem nD τ sig => g.1.1) e
  have h2 : csem k = csem k' := congrArg Prod.snd e
  have h3 := (decode_csem k).symm.trans ((congrArg decode h2).trans (decode_csem k'))
  rw [h1, Option.some.inj h3]

/-! ## What is handed over -/

/-- A half slot of the send buffer of `c`, at any contents; -/
def sAny (c : Dev nD) (t : Fin 3) (h : Fin 2) : sProp 𝕄 :=
  iprop(∃ f, (sPc t h).view.loc (c : Thread nD τ) ↦[(sPc t h).view.set]{fullShare} f)
/-- at the contents that a transfer reads as `v`; -/
def sHas (c : Dev nD) (t : Fin 3) (h : Fin 2) (v : Vec F S256x128 .bf16) : sProp 𝕄 :=
  iprop(∃ f, ⌜(sPc t h).view.read (Elt F) f = v⌝ ∗ ((sPc t h).view.loc (c : Thread nD τ) ↦[(sPc t h).view.set]{fullShare} f))
/-- a half slot of the receive buffer of `c`, at any contents; -/
def rAny (c : Dev nD) (r : Fin 4) (h : Fin 2) : sProp 𝕄 :=
  iprop(∃ f, (rPc r h).view.loc (c : Thread nD τ) ↦[(rPc r h).view.set]{fullShare} f)
/-- at the contents read as `v`. -/
def rHas (c : Dev nD) (r : Fin 4) (h : Fin 2) (v : Vec F S256x128 .bf16) : sProp 𝕄 :=
  iprop(∃ f, ⌜(rPc r h).view.read (Elt F) f = v⌝ ∗ ((rPc r h).view.loc (c : Thread nD τ) ↦[(rPc r h).view.set]{fullShare} f))

omit [FloatOps F] in
/-- What is handed over can be kept in a cell: a half slot of the send buffer, -/
instance sAny_storable (c : Dev nD) (t h) : BI.Storable (upEmb : UEmb _ 𝕄) (sAny (F := F) c t h) := by unfold sAny; infer_instance
omit [FloatOps F] in
/-- of the receive buffer, -/
instance rAny_storable (c : Dev nD) (r h) : BI.Storable (upEmb : UEmb _ 𝕄) (rAny (F := F) c r h) := by unfold rAny; infer_instance
omit [FloatOps F] in
/-- and one with its contents. -/
instance rHas_storable (c : Dev nD) (r h v) : BI.Storable (upEmb : UEmb _ 𝕄) (rHas (F := F) c r h v) := by unfold rHas; infer_instance

omit [FloatOps F] in
/-- Contents known are contents. -/
theorem rHas_any (c : Dev nD) (r h v) : rHas (F := F) c r h v ⊢ rAny c r h := by
  unfold rHas rAny; iintro ⟨%f, -, H⟩; iexists f; iexact H

/-- The slot of the receive buffer of `d` that `c` writes. -/
def slot (c d : Dev nD) : Fin 4 := ⟨(d.val + 4 - c.val) % 4, Nat.mod_lt _ (by decide)⟩
/-- A device writes the slot that block `t` goes to; -/
theorem slot_dest (c : Dev nD) (t : Fin 3) : slot c (dest c t) = hop t := by revert c t; decide
/-- slot 0 would be its own. -/
theorem slot_self (c : Dev nD) : slot c c = 0 := by revert c; decide

/-- What device `d`'s entry signal hands `c`: the half slots of `d`'s receive buffer that `c` writes. -/
def barPay (c d : Dev nD) : sProp 𝕄 := iprop(rAny d (slot c d) 0 ∗ rAny d (slot c d) 1)

omit [FloatOps F] in
/-- This too can be kept in a cell. -/
instance barPay_storable (c d : Dev nD) : BI.Storable (upEmb : UEmb _ 𝕄) (barPay (F := F) c d) := by unfold barPay; infer_instance

/-- The credit of one transfer. -/
abbrev N : ℕ := (rPc 1 0).view.dmaCredit
/-- It is positive. -/
theorem N_pos : 0 < N := View.dmaCredit_pos _ (by decide)

/-! ## The schedule -/

variable (m : (ℓ : Loc nD τ sig) → Buf (Elt F) ℓ)

/-- One round: a barrier cell has a duty of one unit for every other device, a send and a receive cell one duty of a
    transfer's credit. -/
def sch : Rounds.Schedule (GSem nD τ sig) (Dev nD) 𝕄 where
  duties g r := if r = 0 ∧ g.1.2 = .tc then (match decode g.2 with
    | some (.inl _) => Finset.univ.erase g.1.1
    | some (.inr _) => {0}
    | none => ∅) else ∅
  unitless _ := False
  amount g _ _ := match decode g.2 with
    | some (.inl _) => 1
    | _ => N
  payload g _ d := match decode g.2 with
    | some (.inl _) => barPay g.1.1 d
    | some (.inr (.inl p)) => sAny g.1.1 p.1 p.2
    | some (.inr (.inr p)) => rHas g.1.1 (hop p.1) p.2 (blk m (orig g.1.1 p.1) g.1.1 p.2)
    | none => iprop(emp)
  amount_pos g _ _ _ := by
    split
    · exact Nat.one_pos
    · exact N_pos

/-- Every payload can be kept in a cell. -/
instance sch_payload_storable (g : GSem nD τ sig) (r : ℕ) (d : Dev nD) :
    BI.Storable (upEmb : UEmb _ 𝕄) ((sch (F := F) m).payload g r d) := by
  dsimp only [sch]; split <;> infer_instance

section Sched
variable (c : Dev nD) (t : Fin 3) (h : Fin 2)

/-- The barrier semaphore is the barrier cell's, -/
theorem decode_bar : decode (.reg barS) = some (.inl ()) := rfl
/-- a send semaphore a send cell's, -/
theorem decode_send : decode (.dma (sendS t h)) = some (.inr (.inl (t, h))) := decode_csem (.inr (.inl (t, h)))
/-- a receive semaphore a receive cell's. -/
theorem decode_recv : decode (.dma (recvS (hop t) h)) = some (.inr (.inr (t, h))) := decode_csem (.inr (.inr (t, h)))

/-- The duties of a barrier cell are the other devices; -/
theorem duties_bar : (sch m).duties (barCell c) 0 = Finset.univ.erase c := by dsimp only [sch]; rw [decode_bar]; rfl
/-- a send cell has one duty; -/
theorem duties_send : (sch m).duties (sendCell c t h) 0 = {0} := by dsimp only [sch]; rw [decode_send]; rfl
/-- so has a receive cell; -/
theorem duties_recv : (sch m).duties (recvCell c t h) 0 = {0} := by dsimp only [sch]; rw [decode_recv]; rfl
/-- and there is only one round. -/
theorem duties_later (g : GSem nD τ sig) : ∀ r, 1 ≤ r → (sch m).duties g r = ∅ :=
  fun r hr => by dsimp only [sch]; exact if_neg fun e => by omega

/-- An entry signal raises by one; -/
theorem amount_bar (d : Dev nD) : (sch m).amount (barCell c) 0 d = 1 := rfl
/-- a transfer raises its send cell by its credit, -/
theorem amount_send (d : Dev nD) : (sch m).amount (sendCell c t h) 0 d = N := by dsimp only [sch]; rw [decode_send]
/-- and its receive cell. -/
theorem amount_recv (d : Dev nD) : (sch m).amount (recvCell c t h) 0 d = N := by dsimp only [sch]; rw [decode_recv]

/-- A barrier cell is raised by three in all; -/
theorem expect_bar : (sch m).expect (barCell c) 0 = 3 := by
  unfold Schedule.expect Schedule.amountOf
  rw [duties_bar, Finset.sum_congr rfl fun d _ => amount_bar m c d, Finset.sum_const, smul_eq_mul, mul_one]
  revert c; decide
/-- a send cell by one transfer's credit; -/
theorem expect_send : (sch m).expect (sendCell c t h) 0 = N := by
  unfold Schedule.expect Schedule.amountOf; rw [duties_send, Finset.sum_singleton, amount_send]
/-- a receive cell likewise. -/
theorem expect_recv : (sch m).expect (recvCell c t h) 0 = N := by
  unfold Schedule.expect Schedule.amountOf; rw [duties_recv, Finset.sum_singleton, amount_recv]

/-- An entry signal hands over the half slots; -/
theorem payload_bar (d : Dev nD) : (sch m).payload (barCell c) 0 d = barPay c d := rfl
/-- a transfer hands its source back, -/
theorem payload_send (d : Dev nD) : (sch m).payload (sendCell c t h) 0 d = sAny c t h := by dsimp only [sch]; rw [decode_send]
/-- and its target over with the half block that the sender computed. -/
theorem payload_recv (d : Dev nD) : (sch m).payload (recvCell c t h) 0 d = rHas c (hop t) h (blk m (orig c t) c h) := by
  dsimp only [sch]; rw [decode_recv]

/-- The other devices are those the three blocks go to, -/
theorem erase_self : (Finset.univ.erase c : Finset (Dev nD)) = [dest c 0, dest c 1, dest c 2].toFinset := by revert c; decide
/-- each once. -/
theorem dest_nodup : [dest c 0, dest c 1, dest c 2].Nodup := by revert c; decide

/-- The rest of the barrier cell's round, no duty taken: what the three others hand over, in the order of the blocks. -/
theorem rest_bar : bigSep ((sch m).duties (barCell c) 0 \ ∅) (fun d => (sch m).payload (barCell c) 0 d)
    = iprop(barPay c (dest c 0) ∗ barPay c (dest c 1) ∗ barPay c (dest c 2)) := by
  rw [Finset.sdiff_empty, duties_bar, bigSep_eq_bigSepL_of_eq _ (erase_self c) (dest_nodup c), bigSepL_cons_cons, bigSepL_cons_cons,
    bigSepL_singleton, payload_bar, payload_bar, payload_bar]
  rfl
/-- The rest of a send cell's round is the half slot handed back; -/
theorem rest_send : bigSep ((sch m).duties (sendCell c t h) 0 \ ∅) (fun d => (sch m).payload (sendCell c t h) 0 d) = sAny c t h := by
  rw [Finset.sdiff_empty, duties_send, bigSep_singleton, payload_send]
/-- that of a receive cell's is the half slot filled. -/
theorem rest_recv : bigSep ((sch m).duties (recvCell c t h) 0 \ ∅) (fun d => (sch m).payload (recvCell c t h) 0 d)
    = rHas c (hop t) h (blk m (orig c t) c h) := by
  rw [Finset.sdiff_empty, duties_recv, bigSep_singleton, payload_recv]

end Sched

/-! ## What a device owes -/

/-- The raises listed, the first one last in the sum. -/
def sumO : List (GSem nD τ sig × ℕ) → CellTallies nD τ sig Unit
  | [] => 0
  | x :: l => sumO l + tallyAt x.1 () x.2

/-- What the list owes a cell is the sum of its entries for it; -/
theorem sumO_apply (l : List (GSem nD τ sig × ℕ)) (g : GSem nD τ sig) (u : Unit) :
    sumO l g u = (l.map fun x => if g = x.1 then x.2 else 0).sum := by
  induction l with
  | nil => rfl
  | cons x l ih =>
    rw [sumO, Pi.add_apply, Finsupp.add_apply, ih, tallyAt_apply, List.map_cons, List.sum_cons, Nat.add_comm]
    simp only [and_true]

/-- so a cell that is owed something is in the list. -/
theorem sumO_pos {l : List (GSem nD τ sig × ℕ)} {g : GSem nD τ sig} {u : Unit} (h : 0 < sumO l g u) : ∃ x ∈ l, g = x.1 := by
  rw [sumO_apply] at h
  by_contra hn
  have : (l.map fun x => if g = x.1 then x.2 else 0).sum = 0 :=
    List.sum_eq_zero fun y hy => by
      obtain ⟨x, hx, rfl⟩ := List.mem_map.mp hy
      exact if_neg fun e => hn ⟨x, hx, e⟩
  omega

/-- The transfers in the order they start, -/
abbrev order : List TH := [(0, 0), (0, 1), (1, 0), (1, 1), (2, 0), (2, 1)]
/-- and the receive cells they raise. -/
abbrev owedR (c : Dev nD) : List (GSem nD τ sig × ℕ) := order.map fun p => (recvCell (dest c p.1) p.1 p.2, N)
/-- The barrier cells that the entry signals raise. -/
abbrev owedB (c : Dev nD) : List (GSem nD τ sig × ℕ) := [(0 : Fin 3), 1, 2].map fun i => (barCell (other c i), 1)
/-- What device `c` owes at launch. -/
def O₀ (c : Dev nD) : CellTallies nD τ sig Unit := sumO (owedB c ++ owedR c)

/-! ## The levels -/

/-- Only the cells of the cores have a level. -/
def L (g : GSem nD τ sig) : Finset Unit := if g.1.2 = .tc then {()} else ∅
/-- Barrier cells at 1, receive cells at 2, everything else at 0. -/
def lv (g : GSem nD τ sig) (_ : Unit) : ℕ := match decode g.2 with
  | some (.inl _) => 1
  | some (.inr (.inr _)) => 2
  | _ => 0

/-- Elsewhere there is none; -/
theorem L_of_ne (g : GSem nD τ sig) (h : g.1.2 ≠ .tc) : L g = ∅ := if_neg h
/-- there they have. -/
theorem mem_L {g : GSem nD τ sig} (h : g.1.2 = .tc) (u : Unit) : u ∈ L g := by unfold L; rw [if_pos h]; exact Finset.mem_singleton_self _
/-- A barrier cell is at level 1; -/
theorem lv_bar (c : Dev nD) (u : Unit) : lv (barCell c) u = 1 := rfl
/-- a receive cell at level 2. -/
theorem lv_recv (c : Dev nD) (t h) (u : Unit) : lv (recvCell c t h) u = 2 := by unfold lv; rw [decode_recv]

/-- The transfers owe at level 2; -/
theorem owedR_lv {c : Dev nD} {g : GSem nD τ sig} {u : Unit} (h : 0 < sumO (owedR c) g u) : g.1.2 = .tc ∧ lv g u = 2 := by
  obtain ⟨x, hx, rfl⟩ := sumO_pos h
  obtain ⟨p, -, rfl⟩ := List.mem_map.mp hx
  exact ⟨rfl, lv_recv _ _ _ _⟩

/-- and everything owed at launch is at level 1 or above. -/
theorem O₀_lv {c : Dev nD} {g : GSem nD τ sig} {u : Unit} (h : 0 < O₀ c g u) : g.1.2 = .tc ∧ 1 ≤ lv g u := by
  obtain ⟨x, hx, rfl⟩ := sumO_pos h
  rcases List.mem_append.mp hx with hx | hx
  · obtain ⟨i, -, rfl⟩ := List.mem_map.mp hx
    exact ⟨rfl, (lv_bar _ _).ge⟩
  · obtain ⟨p, -, rfl⟩ := List.mem_map.mp hx
    exact ⟨rfl, by rw [lv_recv]; decide⟩

omit [FloatOps F] in
/-- A semaphore that is no cell of the exchange may be waited on, whatever is owed of the exchange. -/
theorem mayWait_stage (c : Dev nD) (q : DmaSem sig) (hq : decode (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L rfl _)
      (fun g u hg => mem_L (O₀_lv hg).1 _)
      (fun p hp => by rw [Finset.mem_singleton.mp hp]; dsimp only [lv]; rw [hq])
      (fun g u hg => (O₀_lv hg).2)
  · rw [MayWait_zero]; iintro -; iempintro

omit [FloatOps F] in
/-- At its barrier wait a device owes receive cells only, which are above the barrier cells. -/
theorem mayWait_bar (c : Dev nD) :
    (levAts L lv : sProp 𝕄) ⊢ MayWait (c : Thread nD τ) (.reg barS) () (sumO (owedR c)) :=
  MayOwe.of_cut (L := L) (lev := lv) 1 (fun p hp => by rw [Finset.mem_singleton.mp hp]; exact mem_L rfl _)
    (fun g u hg => mem_L (owedR_lv hg).1 _)
    (fun p hp => by rw [Finset.mem_singleton.mp hp]; exact (lv_bar c ()).le)
    (fun g u hg => by rw [(owedR_lv hg).2]; decide)

end Cert.A2A
-- ==== Proof.Steps.lean ====
/-
One rule per stretch of the schedule, each stated once for any device, block and half: what the stretch takes, what it
leaves, whatever program follows it.
-/
module

public import proofs.«01_k».proof.Proof.Protocol

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no loop that needs a variant. -/
abbrev 𝒱₀ : Variants := Variants.none

/-- The weakest precondition of a program of device `c`'s core. -/
abbrev wpc (c : Dev nD) (P : KProg (F := F)) (Q : PUnit → sProp 𝕄) : sProp 𝕄 :=
  wp frame (wpE (defs₀ (F := F)) 𝒱₀ (c : Thread nD τ) none) Set.univ P Q

/-- Device `c` owes the listed raises, whatever it has waited on. -/
def ow (c : Dev nD) (l : List (GSem nD τ sig × ℕ)) : sProp 𝕄 := iprop(∃ W, owes (c : Thread nD τ) (sumO l) W)

variable (m : (ℓ : Loc nD τ sig) → Buf (Elt F) ℓ) (K : Dev nD × CK → ℕ)

/-- The invariant of a cell, under the name the launch gave it. -/
def inv (x : Dev nD × CK) : sProp 𝕄 := cellInv ER (sch m) (K x) (cell x)
/-- It can be used any number of times. -/
instance inv_persistent (x : Dev nD × CK) : BI.Persistent (inv m K x) := by unfold inv; infer_instance

/-- What `c`'s entry signal to `d` takes; -/
def sigKit (c d : Dev nD) : sProp 𝕄 :=
  iprop(inv m K (d, .inl ()) ∗ reached ER (barCell d) 0 ∗ dutyTok ER (barCell d) 0 c)
/-- what `c`'s barrier wait takes; -/
def barKit (c : Dev nD) : sProp 𝕄 :=
  iprop(inv m K (c, .inl ()) ∗ atPos ER (barCell c) 0 ∅ 0 ∗ cred (tallyAt (barCell c) () 3) ∗ levAts L lv)
/-- what starting a transfer takes, besides the two half slots; -/
def sendKit (c : Dev nD) (t : Fin 3) (h : Fin 2) : sProp 𝕄 :=
  iprop(inv m K (c, .inr (.inl (t, h))) ∗ inv m K (dest c t, .inr (.inr (t, h)))
    ∗ dutyTok ER (sendCell c t h) 0 0 ∗ reached ER (sendCell c t h) 0
    ∗ dutyTok ER (recvCell (dest c t) t h) 0 0 ∗ reached ER (recvCell (dest c t) t h) 0)
/-- what waiting for one that comes in takes; -/
def recvKit (c : Dev nD) (t : Fin 3) (h : Fin 2) : sProp 𝕄 :=
  iprop(inv m K (c, .inr (.inr (t, h))) ∗ atPos ER (recvCell c t h) 0 ∅ 0 ∗ cred (tallyAt (recvCell c t h) () N))
/-- what waiting until one has left takes, besides the credit its start gave. -/
def drainKit (c : Dev nD) (t : Fin 3) (h : Fin 2) : sProp 𝕄 :=
  iprop(inv m K (c, .inr (.inl (t, h))) ∗ atPos ER (sendCell c t h) 0 ∅ 0)

/-- The staged `x` of device `c`. -/
def xPts (c : Dev nD) : sProp 𝕄 := xM.view.loc (c : Thread nD τ) ↦{fullShare} xstg m c
/-- The staged `w` of device `c`. -/
def wPts (c : Dev nD) : sProp 𝕄 := wM.view.loc (c : Thread nD τ) ↦{fullShare} wstg m c
/-- A half block of the result buffer of `c`, at any contents. -/
def oAny (c s : Dev nD) (h : Fin 2) : sProp 𝕄 := iprop(∃ f, oM.view.loc (c : Thread nD τ) ↦[oSet (s, h)]{fullShare} f)
/-- A half block of the result buffer at the result. -/
def oHas (c s : Dev nD) (h : Fin 2) : sProp 𝕄 := oM.view.loc (c : Thread nD τ) ↦[oSet (s, h)]{fullShare} outF m c

/-- The entry signal to `d` hands over the half slots `d` writes. -/
theorem signal_step (c d : Dev nD) (hd : c ≠ d) (l : List (GSem nD τ sig × ℕ)) (k : KProg (F := F)) (Q : PUnit → sProp 𝕄) :
    iprop(sigKit m K c d ∗ barPay d c ∗ ow c ((barCell d, 1) :: l))
      ⊢ iprop((ow c l -∗ wpc c k Q) -∗ wpc c (signalOps d k) Q) := by
  unfold sigKit inv ow signalOps
  iintro ⟨⟨#HI, #Hr, Ht⟩, Hp, ⟨%W, HO⟩⟩ Hk
  iapply (Rounds.wp_signal 𝒱₀ ER (sch m) (c : Thread nD τ) none (dst := (d : Thread nD τ)) (κ := K (d, .inl ()))
      (d := c) (by rw [duties_bar]; exact Finset.mem_erase.mpr ⟨hd, Finset.mem_univ _⟩) ((amount_bar m d c).trans (by decide)) () (sumO l) rfl)
    $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The barrier wait takes over the half slots of the three others' receive buffers that `c` writes. -/
theorem bar_step (c : Dev nD) (k : KProg (F := F)) (Q : PUnit → sProp 𝕄) :
    iprop(barKit m K c ∗ ow c (owedR c))
      ⊢ iprop(((ow c (owedR c) ∗ atPos ER (barCell c) 1 ∅ 0 ∗ barPay c (dest c 0) ∗ barPay c (dest c 1) ∗ barPay c (dest c 2)) -∗ wpc c k Q)
          -∗ wpc c (.op (.semWait barS (3#32).toInt) fun _ => k) Q) := by
  unfold barKit inv ow
  iintro ⟨⟨#HI, Ha, Hc, #Hl⟩, ⟨%W, HO⟩⟩ Hk
  iapply (Rounds.wp_wait_rest_token 𝒱₀ ER (sch m) (c : Thread nD τ) none (κ := K (c, .inl ()))
      (wpE_semWait_eq 𝒱₀ (c : Thread nD τ) none Set.univ) (Set.mem_univ _) () (O := sumO (owedR c)) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact Hl
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-- Computing a half block puts it into its half slot of the send buffer. -/
theorem stage_step (c : Dev nD) (t : Fin 3) (h : Fin 2) (k : KProg (F := F)) (Q : PUnit → sProp 𝕄) :
    iprop(wPts m c ∗ sAny c t h)
      ⊢ iprop(((wPts m c ∗ sHas c t h (blk m c (dest c t) h)) -∗ wpc c k Q) -∗ wpc c (stageOps c t h (xstg m c) k) Q) := by
  unfold wPts sAny sHas stageOps
  iintro ⟨Hw, ⟨%f, Hs⟩⟩ Hk
  iapply (wp_load 𝒱₀ (c : Thread nD τ) none Set.univ (m := wM) (Finset.subset_univ _)) $$ Hw; iintro Hw
  rw [sPc_set]
  iapply (wp_load 𝒱₀ (c : Thread nD τ) none Set.univ (m := sM) (sLoad_set t h).le) $$ Hs; iintro Hs
  iapply (wp_store 𝒱₀ (c : Thread nD τ) none Set.univ (m := sM) (r := sRect t h) (Mk := Finset.univ) (sStore_set t h).le) $$ Hs; iintro Hs
  iapply Hk
  isplitl [Hw]; · iexact Hw
  iexists _
  isplitr
  swap
  · iexact Hs
  · ipureintro; exact read_stage t h f _

/-- Starting a transfer gives its half slot away, and pays what is owed of it. -/
theorem send_step (c : Dev nD) (t : Fin 3) (h : Fin 2) (l : List (GSem nD τ sig × ℕ)) (k : KProg (F := F)) (Q : PUnit → sProp 𝕄) :
    iprop(sendKit m K c t h ∗ sHas c t h (blk m c (dest c t) h) ∗ rAny (dest c t) (hop t) h ∗ ow c ((recvCell (dest c t) t h, N) :: l))
      ⊢ iprop(((ow c l ∗ cred (tallyAt (sendCell c t h) () N)) -∗ wpc c k Q) -∗ wpc c (sendOps c t h k) Q) := by
  unfold sendKit inv sHas rAny ow sendOps
  iintro ⟨⟨#HI, #HI', Ht, #Hr, Ht', #Hr'⟩, ⟨%f, %hf, Hs⟩, ⟨%fd, Hd⟩, ⟨%W, HO⟩⟩ Hk
  iapply (Rounds.wp_send_pointsTo 𝒱₀ ER (sch m) (c : Thread nD τ) none (κ₁ := K (c, .inr (.inl (t, h)))) (κ₂ := K (dest c t, .inr (.inr (t, h))))
      (r₁ := 0) (r₂ := 0) (d₁ := 0) (d₂ := 0) (fs := f) (fd := fd)
      (by rw [duties_send]; exact Finset.mem_singleton_self _) (by rw [duties_recv]; exact Finset.mem_singleton_self _)
      () () N rfl (amount_send m c t h 0) (amount_recv m (dest c t) t h 0) (sumO l) rfl (W := W)
      (by rw [payload_send]; unfold sAny; iintro H; iexists f; iexact H)
      (by
        rw [payload_recv, orig_dest]; unfold rHas; iintro H
        iexists _
        isplitr
        swap
        · iexact H
        · ipureintro; rw [View.read_write_univ, hf])) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

/-- Computing a half block the device keeps puts it into the result. -/
theorem own_step (c : Dev nD) (h : Fin 2) (k : KProg (F := F)) (Q : PUnit → sProp 𝕄) :
    iprop(wPts m c ∗ oAny c c h)
      ⊢ iprop(((wPts m c ∗ oHas m c c h) -∗ wpc c k Q) -∗ wpc c (ownOps c h (xstg m c) k) Q) := by
  unfold wPts oAny oHas ownOps
  iintro ⟨Hw, ⟨%f, Ho⟩⟩ Hk
  iapply (wp_load 𝒱₀ (c : Thread nD τ) none Set.univ (m := wM) (Finset.subset_univ _)) $$ Hw; iintro Hw
  iapply (wp_load 𝒱₀ (c : Thread nD τ) none Set.univ (m := oM) (oLoad_set c h).le) $$ Ho; iintro Ho
  iapply (wp_store 𝒱₀ (c : Thread nD τ) none Set.univ (m := oM) (r := oRect c h) (Mk := Finset.univ) (oStore_set c h).le) $$ Ho; iintro Ho
  iapply Hk
  isplitl [Hw]; · iexact Hw
  have e : outBlk m c c h = k0_pay10 (k0_pay1 (xstg m c)) (wcols m c c h) := if_pos rfl
  have hs := store_out m c c h f
  rw [e] at hs
  iapply (Entails.of_eq (pointsTo_congr hs)); iexact Ho

/-- Waiting for a half block and putting it into the result; the half slot it came in is free again, and the cell done. -/
theorem recv_step (c : Dev nD) (t : Fin 3) (h : Fin 2) (k : KProg (F := F)) (Q : PUnit → sProp 𝕄) :
    iprop(recvKit m K c t h ∗ oAny c (orig c t) h ∗ ow c [])
      ⊢ iprop(((ow c [] ∗ oHas m c (orig c t) h ∗ rAny c (hop t) h ∗ semVal (recvCell c t h) 0) -∗ wpc c k Q) -∗ wpc c (recvOps c t h k) Q) := by
  unfold recvKit inv oAny oHas ow recvOps
  iintro ⟨⟨#HI, Ha, Hc⟩, ⟨%f, Ho⟩, ⟨%W, HO⟩⟩ Hk
  iapply (Rounds.wp_wait_rest_token 𝒱₀ ER (sch m) (c : Thread nD τ) none (κ := K (c, .inr (.inr (t, h))))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_recv m c t h)) $$ Hp
  unfold rHas
  icases Hp with ⟨%g, %hg, Hr⟩
  imod (Rounds.cell_close ER (sch m) (Set.mem_univ (K (c, .inr (.inr (t, h))))) (fun h => h) (R := 0 + 1) (duties_later m (recvCell c t h))) $$ [Ha] with Hz
  · isplitr; · iexact HI
    iexact Ha
  rw [rPc_set]
  iapply (wp_load 𝒱₀ (c : Thread nD τ) none Set.univ (m := rM) (rLoad_set (hop t) h).le) $$ Hr; iintro Hr
  iapply (wp_load 𝒱₀ (c : Thread nD τ) none Set.univ (m := oM) (oLoad_set (orig c t) h).le) $$ Ho; iintro Ho
  iapply (wp_store 𝒱₀ (c : Thread nD τ) none Set.univ (m := oM) (r := oRect (orig c t) h) (Mk := Finset.univ) (oStore_set (orig c t) h).le) $$ Ho; iintro Ho
  iapply Hk
  isplitl [HO]; · iexists _; iexact HO
  isplitl [Ho]
  · have e : outBlk m c (orig c t) h = k0_pay11 (rM.view.readAt (Elt F) (rRect (hop t) h).toLoadRect g) := by
      rw [pay_recv, hg]; exact if_neg (orig_ne c t)
    have hs := store_out m c (orig c t) h f
    rw [e] at hs
    iapply (Entails.of_eq (pointsTo_congr hs)); iexact Ho
  isplitl [Hr]
  · unfold rAny; rw [rPc_set]; iexists g; iexact Hr
  iexact Hz

/-- Waiting until a half block has left: its half slot is free again, and the cell done. -/
theorem drain_step (c : Dev nD) (t : Fin 3) (h : Fin 2) (k : KProg (F := F)) (Q : PUnit → sProp 𝕄) :
    iprop(drainKit m K c t h ∗ cred (tallyAt (sendCell c t h) () N) ∗ ow c [])
      ⊢ iprop(((ow c [] ∗ sAny c t h ∗ semVal (sendCell c t h) 0) -∗ wpc c k Q) -∗ wpc c (drainOps t h k) Q) := by
  unfold drainKit inv ow drainOps
  iintro ⟨⟨#HI, Ha⟩, Hc, ⟨%W, HO⟩⟩ Hk
  iapply (Rounds.wp_wait_rest_token 𝒱₀ ER (sch m) (c : Thread nD τ) none (κ := K (c, .inr (.inl (t, h))))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_send m c t h)) $$ Hp
  imod (Rounds.cell_close ER (sch m) (Set.mem_univ (K (c, .inr (.inl (t, h))))) (fun h => h) (R := 0 + 1) (duties_later m (sendCell c t h))) $$ [Ha] with Hz
  · isplitr; · iexact HI
    iexact Ha
  iapply Hk
  isplitl [HO]; · iexists _; iexact HO
  isplitl [Hp]; · iexact Hp
  iexact Hz

/-- The barrier cell, its wait behind it, is done. -/
theorem bar_close (c : Dev nD) : iprop(inv m K (c, .inl ()) ∗ atPos ER (barCell c) 1 ∅ 0) ⊢ |={Set.univ}=> semVal (barCell c) 0 := by
  unfold inv
  exact Rounds.cell_close ER (sch m) (Set.mem_univ (K (c, .inl ()))) (fun h => h) (R := 1) (duties_later m (barCell c))

end Cert.A2A
-- ==== Proof.Body.lean ====
/-
The kernel's body on one device: its schedule run stretch by stretch, from what the launch deals to the result block.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the small index sets, written out -/

omit [FloatOps F] in
/-- A conjunction over the six half blocks sent, written out; -/
theorem sep_TH (Φ : TH → sProp 𝕄) : bigSep Finset.univ Φ
    = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

omit [FloatOps F] in
/-- and one over the three other devices. -/
theorem sep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The half slots of the receive buffer: the two never used, then by the device that writes them; -/
theorem sep_RH_give (c : Dev nD) (Φ : RH → sProp 𝕄) : bigSep Finset.univ Φ
    = iprop(Φ (0, 0) ∗ Φ (0, 1) ∗ Φ (slot (other c 0) c, 0) ∗ Φ (slot (other c 0) c, 1) ∗ Φ (slot (other c 1) c, 0) ∗ Φ (slot (other c 1) c, 1)
        ∗ Φ (slot (other c 2) c, 0) ∗ Φ (slot (other c 2) c, 1)) :=
  bigSep_univ_eq_bigSepL [(0, 0), (0, 1), (slot (other c 0) c, 0), (slot (other c 0) c, 1), (slot (other c 1) c, 0), (slot (other c 1) c, 1),
    (slot (other c 2) c, 0), (slot (other c 2) c, 1)] (by revert c; decide) (by revert c; decide) Φ

omit [FloatOps F] in
/-- by the block that comes in there. -/
theorem sep_RH_take (Φ : RH → sProp 𝕄) : bigSep Finset.univ Φ
    = iprop(Φ (0, 0) ∗ Φ (0, 1) ∗ Φ (hop 1, 0) ∗ Φ (hop 1, 1) ∗ Φ (hop 0, 0) ∗ Φ (hop 0, 1) ∗ Φ (hop 2, 0) ∗ Φ (hop 2, 1)) :=
  bigSep_univ_eq_bigSepL [(0, 0), (0, 1), (hop 1, 0), (hop 1, 1), (hop 0, 0), (hop 0, 1), (hop 2, 0), (hop 2, 1)] (by decide) (by decide) Φ

omit [FloatOps F] in
/-- The half blocks of the result, in the order they are stored. -/
theorem sep_DH (c : Dev nD) (Φ : DH → sProp 𝕄) : bigSep Finset.univ Φ
    = iprop(Φ (c, 0) ∗ Φ (c, 1) ∗ Φ (orig c 1, 0) ∗ Φ (orig c 1, 1) ∗ Φ (orig c 0, 0) ∗ Φ (orig c 0, 1) ∗ Φ (orig c 2, 0) ∗ Φ (orig c 2, 1)) :=
  bigSep_univ_eq_bigSepL [(c, 0), (c, 1), (orig c 1, 0), (orig c 1, 1), (orig c 0, 0), (orig c 0, 1), (orig c 2, 0), (orig c 2, 1)]
    (by revert c; decide) (by revert c; decide) Φ

/-! ## The buffers taken apart and put together -/

omit [FloatOps F] in
/-- A half slot of the send buffer at any contents is those elements of the buffer; -/
theorem sAny_eq (c : Dev nD) (p : TH) : (sAny c p.1 p.2 : sProp 𝕄)
    = iprop(∃ f : Buf (Elt F) ((c : Thread nD τ).loc cc0_scratch0), ((c : Thread nD τ).loc cc0_scratch0) ↦[sSet p]{fullShare} f) := by
  unfold sAny; rw [sPc_set]
omit [FloatOps F] in
/-- and so in the receive buffer. -/
theorem rAny_eq (c : Dev nD) (p : RH) : (rAny c p.1 p.2 : sProp 𝕄)
    = iprop(∃ f : Buf (Elt F) ((c : Thread nD τ).loc cc0_scratch1), ((c : Thread nD τ).loc cc0_scratch1) ↦[rSet p]{fullShare} f) := by
  unfold rAny; rw [rPc_set]

omit [FloatOps F] in
/-- The send buffer held whole is its six half slots; -/
theorem send_split (c : Dev nD) (f : Buf (Elt F) ((c : Thread nD τ).loc cc0_scratch0)) :
    (((c : Thread nD τ).loc cc0_scratch0) ↦{fullShare} f : sProp 𝕄) ⊢ bigSep Finset.univ fun p : TH => sAny c p.1 p.2 := by
  rw [Ring.pointsTo_blocks (ℓ := (c : Thread nD τ).loc cc0_scratch0) sSet sSet_disjoint sSet_cover]
  refine bigSep_mono fun p _ => (show (((c : Thread nD τ).loc cc0_scratch0) ↦[sSet p]{fullShare} f : sProp 𝕄) ⊢ sAny c p.1 p.2 from ?_)
  rw [sAny_eq]; iintro H; iexists f; iexact H
omit [FloatOps F] in
/-- and the six make it whole again. -/
theorem send_join (c : Dev nD) [Nonempty (Buf (Elt F) ((c : Thread nD τ).loc cc0_scratch0))] :
    (bigSep Finset.univ fun p : TH => (sAny c p.1 p.2 : sProp 𝕄))
      ⊢ iprop(∃ f : Buf (Elt F) ((c : Thread nD τ).loc cc0_scratch0), ((c : Thread nD τ).loc cc0_scratch0) ↦{fullShare} f) := by
  simp only [sAny_eq]
  exact Ring.pointsTo_blocks_join_exists (ℓ := (c : Thread nD τ).loc cc0_scratch0) sSet sSet_disjoint sSet_cover (Classical.arbitrary _)
omit [FloatOps F] in
/-- The receive buffer held whole is its eight half slots; -/
theorem recv_split (c : Dev nD) (f : Buf (Elt F) ((c : Thread nD τ).loc cc0_scratch1)) :
    (((c : Thread nD τ).loc cc0_scratch1) ↦{fullShare} f : sProp 𝕄) ⊢ bigSep Finset.univ fun p : RH => rAny c p.1 p.2 := by
  rw [Ring.pointsTo_blocks (ℓ := (c : Thread nD τ).loc cc0_scratch1) rSet rSet_disjoint rSet_cover]
  refine bigSep_mono fun p _ => (show (((c : Thread nD τ).loc cc0_scratch1) ↦[rSet p]{fullShare} f : sProp 𝕄) ⊢ rAny c p.1 p.2 from ?_)
  rw [rAny_eq]; iintro H; iexists f; iexact H
omit [FloatOps F] in
/-- and the eight make it whole again. -/
theorem recv_join (c : Dev nD) [Nonempty (Buf (Elt F) ((c : Thread nD τ).loc cc0_scratch1))] :
    (bigSep Finset.univ fun p : RH => (rAny c p.1 p.2 : sProp 𝕄))
      ⊢ iprop(∃ f : Buf (Elt F) ((c : Thread nD τ).loc cc0_scratch1), ((c : Thread nD τ).loc cc0_scratch1) ↦{fullShare} f) := by
  simp only [rAny_eq]
  exact Ring.pointsTo_blocks_join_exists (ℓ := (c : Thread nD τ).loc cc0_scratch1) rSet rSet_disjoint rSet_cover (Classical.arbitrary _)
omit [FloatOps F] in
/-- The result buffer held whole is its eight half blocks; -/
theorem out_split (c : Dev nD) (f : Buf (Elt F) ((c : Thread nD τ).loc cc0_stg2_0)) :
    (((c : Thread nD τ).loc cc0_stg2_0) ↦{fullShare} f : sProp 𝕄) ⊢ bigSep Finset.univ fun p : DH => oAny c p.1 p.2 := by
  rw [Ring.pointsTo_blocks (ℓ := (c : Thread nD τ).loc cc0_stg2_0) oSet oSet_disjoint oSet_cover]
  refine bigSep_mono fun p _ => (show (((c : Thread nD τ).loc cc0_stg2_0) ↦[oSet p]{fullShare} f : sProp 𝕄) ⊢ oAny c p.1 p.2 from ?_)
  unfold oAny; iintro H; iexists f; iexact H

variable (m : (ℓ : Loc nD τ sig) → Buf (Elt F) ℓ) (ρ : Dev nD → PrngReg)

/-- and the eight at the result are the whole buffer at the result. -/
theorem out_join (c : Dev nD) : (bigSep Finset.univ fun p : DH => (oHas m c p.1 p.2 : sProp 𝕄))
    = (((c : Thread nD τ).loc cc0_stg2_0) ↦{fullShare} outF m c : sProp 𝕄) :=
  (Ring.pointsTo_blocks (ℓ := (c : Thread nD τ).loc cc0_stg2_0) oSet oSet_disjoint oSet_cover _).symm

/-! ## What a device starts from, and what it ends with -/

/-- The exchange's ghost state of device `c`; the two receive semaphores that no transfer raises are carried at zero. -/
def ghost (K : Dev nD × CK → ℕ) (c : Dev nD) : sProp 𝕄 :=
  iprop((bigSep Finset.univ fun i : Fin 3 => sigKit m K c (other c i))
    ∗ (inv m K (c, .inl ()) ∗ atPos ER (barCell c) 0 ∅ 0)
    ∗ (bigSep Finset.univ fun p : TH => sendKit m K c p.1 p.2)
    ∗ (bigSep Finset.univ fun p : TH => iprop(inv m K (c, .inr (.inr p)) ∗ atPos ER (recvCell c p.1 p.2) 0 ∅ 0))
    ∗ (bigSep Finset.univ fun p : TH => drainKit m K c p.1 p.2)
    ∗ (bigSep Finset.univ fun h : Fin 2 => semVal ((c : Thread nD τ), .dma (recvS 0 h)) 0))

/-- The credit of what the others will raise on `c`. -/
def credits (c : Dev nD) : sProp 𝕄 :=
  iprop(cred (tallyAt (barCell c) () 3) ∗ bigSep Finset.univ fun p : TH => cred (tallyAt (recvCell c p.1 p.2) () N))

/-- What device `c` starts from: its ghost state, its credit and the levels. -/
def start (c : Dev nD) : sProp 𝕄 := iprop((∃ K, ghost m K c) ∗ credits c ∗ levAts L lv)

/-- A scratch buffer of `c` held whole, at any contents. -/
def scr (c : Dev nD) (b : Ref sig .tc) : sProp 𝕄 := iprop(∃ f : Buf (Elt F) ((c : Thread nD τ).loc b), ((c : Thread nD τ).loc b) ↦{fullShare} f)

/-- At the start: that, and the two scratch buffers. -/
def Φ₀ (c : Dev nD) : sProp 𝕄 := iprop(start m c ∗ scr c cc0_scratch0 ∗ scr c cc0_scratch1)
/-- At the end: the scratch buffers, and every semaphore of the exchange at zero. -/
def Φ₁ (c : Dev nD) : sProp 𝕄 :=
  iprop(scr c cc0_scratch0 ∗ scr c cc0_scratch1 ∗ semVal (barCell c) 0
    ∗ (bigSep Finset.univ fun p : TH => semVal (sendCell c p.1 p.2) 0)
    ∗ (bigSep Finset.univ fun p : TH => semVal (recvCell c p.1 p.2) 0)
    ∗ (bigSep Finset.univ fun h : Fin 2 => semVal ((c : Thread nD τ), .dma (recvS 0 h)) 0))

/-- The proof data of the kernel's one point. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer of `c` at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a whole staging buffer is holding all its elements. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The whole of `x` is loaded. -/
theorem load_x (f : (cc0_stg0_0 : Ref sig .tc).ty.Contents (Elt F)) :
    xM.view.readAt (Elt F) (Rect.unit (s := S256x1024) ![0, 0] S256x1024.size inb_S256x1024_S256x1024_0_0).toLoadRect f = f :=
  Memref.readAt_unit_zero (Elt F) cc0_stg0_0 (funext fun a => by fin_cases a <;> rfl) _ f

/-- No device is one of the three others. -/
theorem other_ne (c : Dev nD) (i : Fin 3) : c ≠ other c i := (Fin.succAbove_ne (n := 3) c i).symm

/-- What the body takes, in the order it uses it. -/
def work (K : Dev nD × CK → ℕ) (c : Dev nD) : sProp 𝕄 :=
  iprop(ghost m K c ∗ credits c ∗ levAts L lv
    ∗ (bigSep Finset.univ fun p : TH => sAny c p.1 p.2) ∗ (bigSep Finset.univ fun p : RH => rAny c p.1 p.2)
    ∗ xPts m c ∗ wPts m c ∗ (bigSep Finset.univ fun p : DH => oAny c p.1 p.2) ∗ ow c (owedB c ++ owedR c))
/-- What it leaves. -/
def done (c : Dev nD) : sProp 𝕄 :=
  iprop((bigSep Finset.univ fun p : TH => sAny c p.1 p.2) ∗ (bigSep Finset.univ fun p : RH => rAny c p.1 p.2)
    ∗ xPts m c ∗ wPts m c ∗ (bigSep Finset.univ fun p : DH => oHas m c p.1 p.2) ∗ ow c []
    ∗ semVal (barCell c) 0
    ∗ (bigSep Finset.univ fun p : TH => semVal (sendCell c p.1 p.2) 0)
    ∗ (bigSep Finset.univ fun p : TH => semVal (recvCell c p.1 p.2) 0)
    ∗ (bigSep Finset.univ fun h : Fin 2 => semVal ((c : Thread nD τ), .dma (recvS 0 h)) 0))

set_option maxHeartbeats 2000000 in
/-- Device `c`'s program, from what it takes to what it leaves. -/
theorem prog_wp (K : Dev nD × CK → ℕ) (c : Dev nD) (Q : PUnit → sProp 𝕄) :
    iprop(work m K c ∗ (done m c -∗ Q ⟨⟩)) ⊢ wpc c (prog c) Q := by
  unfold work ghost credits prog
  rw [sep_three, sep_TH, sep_TH, sep_TH, sep_TH, sep_TH, sep_RH_give c, sep_DH c]
  dsimp only [owedB, owedR, order, List.map_cons, List.map_nil, List.cons_append, List.nil_append]
  iintro ⟨⟨⟨⟨Hg0, Hg1, Hg2⟩, ⟨#HIb, Hab⟩, ⟨Hk00, Hk01, Hk10, Hk11, Hk20, Hk21⟩, ⟨⟨#Hi00, Ha00⟩, ⟨#Hi01, Ha01⟩, ⟨#Hi10, Ha10⟩, ⟨#Hi11, Ha11⟩, ⟨#Hi20, Ha20⟩, ⟨#Hi21, Ha21⟩⟩,
      ⟨Hd00, Hd01, Hd10, Hd11, Hd20, Hd21⟩, Hz0⟩, ⟨Hcb, Hc00, Hc01, Hc10, Hc11, Hc20, Hc21⟩, #Hl,
      ⟨Hs00, Hs01, Hs10, Hs11, Hs20, Hs21⟩, ⟨Hr0, Hr1, Hp00, Hp01, Hp10, Hp11, Hp20, Hp21⟩, Hx, Hw,
      ⟨Hoc0, Hoc1, Ho10, Ho11, Ho00, Ho01, Ho20, Ho21⟩, HO⟩, HQ⟩
  iapply (signal_step m K c (other c 0) (other_ne c 0) _ _ Q) $$ [Hg0 Hp00 Hp01 HO]
  · isplitl [Hg0]; · iexact Hg0
    isplitl [Hp00 Hp01]
    · unfold barPay; isplitl [Hp00]; · iexact Hp00
      iexact Hp01
    iexact HO
  iintro HO
  iapply (signal_step m K c (other c 1) (other_ne c 1) _ _ Q) $$ [Hg1 Hp10 Hp11 HO]
  · isplitl [Hg1]; · iexact Hg1
    isplitl [Hp10 Hp11]
    · unfold barPay; isplitl [Hp10]; · iexact Hp10
      iexact Hp11
    iexact HO
  iintro HO
  iapply (signal_step m K c (other c 2) (other_ne c 2) _ _ Q) $$ [Hg2 Hp20 Hp21 HO]
  · isplitl [Hg2]; · iexact Hg2
    isplitl [Hp20 Hp21]
    · unfold barPay; isplitl [Hp20]; · iexact Hp20
      iexact Hp21
    iexact HO
  iintro HO
  unfold sched
  unfold xPts
  iapply (wp_load 𝒱₀ (c : Thread nD τ) none Set.univ (m := xM) (Finset.subset_univ _)) $$ Hx; iintro Hx
  rw [load_x]
  iapply (stage_step m c 0 0 _ Q) $$ [Hw Hs00]
  · isplitl [Hw]; · iexact Hw
    iexact Hs00
  iintro ⟨Hw, Hs00⟩
  iapply (bar_step m K c _ Q) $$ [Hab Hcb HO]
  · isplitr [HO]
    · unfold barKit
      isplitr; · iexact HIb
      isplitl [Hab]; · iexact Hab
      isplitl [Hcb]; · iexact Hcb
      iexact Hl
    iexact HO
  unfold barPay
  rw [slot_dest, slot_dest, slot_dest]
  iintro ⟨HO, Hab, ⟨Hp00, Hp01⟩, ⟨Hp10, Hp11⟩, ⟨Hp20, Hp21⟩⟩
  iapply (send_step m K c 0 0 _ _ Q) $$ [Hk00 Hs00 Hp00 HO]
  · isplitl [Hk00]; · iexact Hk00
    isplitl [Hs00]; · iexact Hs00
    isplitl [Hp00]; · iexact Hp00
    iexact HO
  iintro ⟨HO, He00⟩
  iapply (stage_step m c 0 1 _ Q) $$ [Hw Hs01]
  · isplitl [Hw]; · iexact Hw
    iexact Hs01
  iintro ⟨Hw, Hs01⟩
  iapply (send_step m K c 0 1 _ _ Q) $$ [Hk01 Hs01 Hp01 HO]
  · isplitl [Hk01]; · iexact Hk01
    isplitl [Hs01]; · iexact Hs01
    isplitl [Hp01]; · iexact Hp01
    iexact HO
  iintro ⟨HO, He01⟩
  iapply (stage_step m c 1 0 _ Q) $$ [Hw Hs10]
  · isplitl [Hw]; · iexact Hw
    iexact Hs10
  iintro ⟨Hw, Hs10⟩
  iapply (send_step m K c 1 0 _ _ Q) $$ [Hk10 Hs10 Hp10 HO]
  · isplitl [Hk10]; · iexact Hk10
    isplitl [Hs10]; · iexact Hs10
    isplitl [Hp10]; · iexact Hp10
    iexact HO
  iintro ⟨HO, He10⟩
  iapply (stage_step m c 1 1 _ Q) $$ [Hw Hs11]
  · isplitl [Hw]; · iexact Hw
    iexact Hs11
  iintro ⟨Hw, Hs11⟩
  iapply (send_step m K c 1 1 _ _ Q) $$ [Hk11 Hs11 Hp11 HO]
  · isplitl [Hk11]; · iexact Hk11
    isplitl [Hs11]; · iexact Hs11
    isplitl [Hp11]; · iexact Hp11
    iexact HO
  iintro ⟨HO, He11⟩
  iapply (stage_step m c 2 0 _ Q) $$ [Hw Hs20]
  · isplitl [Hw]; · iexact Hw
    iexact Hs20
  iintro ⟨Hw, Hs20⟩
  iapply (send_step m K c 2 0 _ _ Q) $$ [Hk20 Hs20 Hp20 HO]
  · isplitl [Hk20]; · iexact Hk20
    isplitl [Hs20]; · iexact Hs20
    isplitl [Hp20]; · iexact Hp20
    iexact HO
  iintro ⟨HO, He20⟩
  iapply (stage_step m c 2 1 _ Q) $$ [Hw Hs21]
  · isplitl [Hw]; · iexact Hw
    iexact Hs21
  iintro ⟨Hw, Hs21⟩
  iapply (send_step m K c 2 1 _ _ Q) $$ [Hk21 Hs21 Hp21 HO]
  · isplitl [Hk21]; · iexact Hk21
    isplitl [Hs21]; · iexact Hs21
    isplitl [Hp21]; · iexact Hp21
    iexact HO
  iintro ⟨HO, He21⟩
  iapply (own_step m c 0 _ Q) $$ [Hw Hoc0]
  · isplitl [Hw]; · iexact Hw
    iexact Hoc0
  iintro ⟨Hw, Hoc0⟩
  iapply (own_step m c 1 _ Q) $$ [Hw Hoc1]
  · isplitl [Hw]; · iexact Hw
    iexact Hoc1
  iintro ⟨Hw, Hoc1⟩
  iapply (recv_step m K c 1 0 _ Q) $$ [Ha10 Hc10 Ho10 HO]
  · unfold recvKit
    isplitl [Ha10 Hc10]
    · isplitr; · iexact Hi10
      isplitl [Ha10]; · iexact Ha10
      iexact Hc10
    isplitl [Ho10]; · iexact Ho10
    iexact HO
  iintro ⟨HO, Ho10, Hp10, Hz10⟩
  iapply (recv_step m K c 1 1 _ Q) $$ [Ha11 Hc11 Ho11 HO]
  · unfold recvKit
    isplitl [Ha11 Hc11]
    · isplitr; · iexact Hi11
      isplitl [Ha11]; · iexact Ha11
      iexact Hc11
    isplitl [Ho11]; · iexact Ho11
    iexact HO
  iintro ⟨HO, Ho11, Hp11, Hz11⟩
  iapply (recv_step m K c 0 0 _ Q) $$ [Ha00 Hc00 Ho00 HO]
  · unfold recvKit
    isplitl [Ha00 Hc00]
    · isplitr; · iexact Hi00
      isplitl [Ha00]; · iexact Ha00
      iexact Hc00
    isplitl [Ho00]; · iexact Ho00
    iexact HO
  iintro ⟨HO, Ho00, Hp00, Hz00⟩
  iapply (recv_step m K c 0 1 _ Q) $$ [Ha01 Hc01 Ho01 HO]
  · unfold recvKit
    isplitl [Ha01 Hc01]
    · isplitr; · iexact Hi01
      isplitl [Ha01]; · iexact Ha01
      iexact Hc01
    isplitl [Ho01]; · iexact Ho01
    iexact HO
  iintro ⟨HO, Ho01, Hp01, Hz01⟩
  iapply (recv_step m K c 2 0 _ Q) $$ [Ha20 Hc20 Ho20 HO]
  · unfold recvKit
    isplitl [Ha20 Hc20]
    · isplitr; · iexact Hi20
      isplitl [Ha20]; · iexact Ha20
      iexact Hc20
    isplitl [Ho20]; · iexact Ho20
    iexact HO
  iintro ⟨HO, Ho20, Hp20, Hz20⟩
  iapply (recv_step m K c 2 1 _ Q) $$ [Ha21 Hc21 Ho21 HO]
  · unfold recvKit
    isplitl [Ha21 Hc21]
    · isplitr; · iexact Hi21
      isplitl [Ha21]; · iexact Ha21
      iexact Hc21
    isplitl [Ho21]; · iexact Ho21
    iexact HO
  iintro ⟨HO, Ho21, Hp21, Hz21⟩
  iapply (drain_step m K c 0 0 _ Q) $$ [Hd00 He00 HO]
  · isplitl [Hd00]; · iexact Hd00
    isplitl [He00]; · iexact He00
    iexact HO
  iintro ⟨HO, Hs00, Hy00⟩
  iapply (drain_step m K c 0 1 _ Q) $$ [Hd01 He01 HO]
  · isplitl [Hd01]; · iexact Hd01
    isplitl [He01]; · iexact He01
    iexact HO
  iintro ⟨HO, Hs01, Hy01⟩
  iapply (drain_step m K c 1 0 _ Q) $$ [Hd10 He10 HO]
  · isplitl [Hd10]; · iexact Hd10
    isplitl [He10]; · iexact He10
    iexact HO
  iintro ⟨HO, Hs10, Hy10⟩
  iapply (drain_step m K c 1 1 _ Q) $$ [Hd11 He11 HO]
  · isplitl [Hd11]; · iexact Hd11
    isplitl [He11]; · iexact He11
    iexact HO
  iintro ⟨HO, Hs11, Hy11⟩
  iapply (drain_step m K c 2 0 _ Q) $$ [Hd20 He20 HO]
  · isplitl [Hd20]; · iexact Hd20
    isplitl [He20]; · iexact He20
    iexact HO
  iintro ⟨HO, Hs20, Hy20⟩
  iapply (drain_step m K c 2 1 _ Q) $$ [Hd21 He21 HO]
  · isplitl [Hd21]; · iexact Hd21
    isplitl [He21]; · iexact He21
    iexact HO
  iintro ⟨HO, Hs21, Hy21⟩
  imod (bar_close m K c) $$ [Hab] with Hzb
  · isplitr; · iexact HIb
    iexact Hab
  rw [wp_ret]; imodintro
  iapply HQ
  unfold done
  rw [sep_TH, sep_TH, sep_TH, sep_RH_take, sep_DH c]
  isplitl [Hs00 Hs01 Hs10 Hs11 Hs20 Hs21]
  · isplitl [Hs00]; · iexact Hs00
    isplitl [Hs01]; · iexact Hs01
    isplitl [Hs10]; · iexact Hs10
    isplitl [Hs11]; · iexact Hs11
    isplitl [Hs20]; · iexact Hs20
    iexact Hs21
  isplitl [Hr0 Hr1 Hp10 Hp11 Hp00 Hp01 Hp20 Hp21]
  · isplitl [Hr0]; · iexact Hr0
    isplitl [Hr1]; · iexact Hr1
    isplitl [Hp10]; · iexact Hp10
    isplitl [Hp11]; · iexact Hp11
    isplitl [Hp00]; · iexact Hp00
    isplitl [Hp01]; · iexact Hp01
    isplitl [Hp20]; · iexact Hp20
    iexact Hp21
  isplitl [Hx]; · unfold xPts; iexact Hx
  isplitl [Hw]; · iexact Hw
  isplitl [Hoc0 Hoc1 Ho10 Ho11 Ho00 Ho01 Ho20 Ho21]
  · isplitl [Hoc0]; · iexact Hoc0
    isplitl [Hoc1]; · iexact Hoc1
    isplitl [Ho10]; · iexact Ho10
    isplitl [Ho11]; · iexact Ho11
    isplitl [Ho00]; · iexact Ho00
    isplitl [Ho01]; · iexact Ho01
    isplitl [Ho20]; · iexact Ho20
    iexact Ho21
  isplitl [HO]; · iexact HO
  isplitl [Hzb]; · iexact Hzb
  isplitl [Hy00 Hy01 Hy10 Hy11 Hy20 Hy21]
  · isplitl [Hy00]; · iexact Hy00
    isplitl [Hy01]; · iexact Hy01
    isplitl [Hy10]; · iexact Hy10
    isplitl [Hy11]; · iexact Hy11
    isplitl [Hy20]; · iexact Hy20
    iexact Hy21
  isplitl [Hz00 Hz01 Hz10 Hz11 Hz20 Hz21]
  · isplitl [Hz00]; · iexact Hz00
    isplitl [Hz01]; · iexact Hz01
    isplitl [Hz10]; · iexact Hz10
    isplitl [Hz11]; · iexact Hz11
    isplitl [Hz20]; · iexact Hz20
    iexact Hz21
  iexact Hz0

/-! ## The pipeline's obligation -/

/-- The pipeline has one point; -/
theorem cfg0_N : cfg0.N = 1 := by decide
/-- The kernel's one point. -/
def t₀ : Fin cfg0.N := ⟨0, by rw [cfg0_N]; decide⟩
/-- so every point is that one. -/
theorem fin_N (t : Fin cfg0.N) : t = t₀ := by
  obtain ⟨t, ht⟩ := t; have := cfg0_N; exact Fin.ext (by simp only [t₀]; omega)

/-- Before the body runs, the first staging buffer holds the block of `x`; -/
theorem before_x (c : Dev nD) (d) : (dats m 0 c).before (0 : Fin 3) t₀ d = xstg m c := by
  unfold Dat.before; rw [if_pos (fetch0_0 _)]; rfl
/-- and the second the weights. -/
theorem before_w (c : Dev nD) (d) : (dats m 0 c).before (1 : Fin 3) t₀ d = wstg m c := by
  unfold Dat.before; rw [if_pos (fetch0_1 _)]; rfl

/-- What the pipeline hands the body. -/
def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
/-- What the body hands back to the pipeline. -/
def bodyPost (c : Dev nD) : sProp 𝕄 :=
  iprop(Φ₁ c ∗ (dats m 0 c).owesAt () t₀.succ ∗ stg c cc0_stg0_0 (xstg m c) ∗ stg c cc0_stg1_0 (wstg m c) ∗ stg c cc0_stg2_0 (outF m c))

/-- What the pipeline hands over is what the body takes; -/
theorem pre_work (c : Dev nD) : bodyPre m c ⊢ iprop(∃ K, work m K c) := by
  unfold bodyPre Φ₀ start scr Dat.owesAt Pipeline.owesWithin
  simp only [before_x, before_w]
  iintro ⟨⟨⟨⟨%K, Hg⟩, Hc, Hl⟩, ⟨%fs, Hs⟩, ⟨%fr, Hr⟩⟩, ⟨%W, %hW, HO⟩, ⟨%d0, %g0, %e0, Hx⟩, ⟨%d1, %g1, %e1, Hw⟩, ⟨%d2, %g2, %e2, Ho⟩⟩
  subst e0; subst e1
  iexists K
  unfold work ow xPts wPts
  isplitl [Hg]; · iexact Hg
  isplitl [Hc]; · iexact Hc
  isplitl [Hl]; · iexact Hl
  isplitl [Hs]; · iapply (send_split c fs); iexact Hs
  isplitl [Hr]; · iapply (recv_split c fr); iexact Hr
  isplitl [Hx]; · iexact Hx
  isplitl [Hw]; · iexact Hw
  isplitl [Ho]; · iapply (out_split c g2); iexact Ho
  iexists W; iexact HO

/-- and what the body leaves is what the pipeline wants. -/
theorem done_post (c : Dev nD) : done m c ⊢ bodyPost m c := by
  unfold done bodyPost Φ₁ scr ow xPts wPts Dat.owesAt Pipeline.owesWithin
  rw [out_join]
  iintro ⟨Hs, Hr, Hx, Hw, Ho, ⟨%W, HO⟩, Hzb, Hy, Hz, Hz0⟩
  isplitr [Hx Hw Ho HO]
  · isplitl [Hs]; · iapply (send_join c); iexact Hs
    isplitl [Hr]; · iapply (recv_join c); iexact Hr
    isplitl [Hzb]; · iexact Hzb
    isplitl [Hy]; · iexact Hy
    isplitl [Hz]; · iexact Hz
    iexact Hz0
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The library's obligation of the body on device `c`. -/
theorem body_obligation (c : Dev nD) : BodyObligation (dats (F := F) m 0 c) (defs₀ (F := F)) 𝒱₀ () Set.univ := fun t => by
  rw [fin_N t, bigSep_W0, bigSep_W0]
  simp only [owns_whole]
  show bodyPre m c ⊢ wpc c (cc0_body (F := F) xM (Memref.isWhole_whole _) wM (Memref.isWhole_whole _) oM (Memref.isWhole_whole _) sM (Memref.isWhole_whole _)
      rM (Memref.isWhole_whole _) cc0_scratch2 cc0_scratch3) (fun _ => bodyPost m c)
  rw [body_eq]
  simp only [wpc, wp_deviceId]
  refine (pre_work m c).trans ?_
  iintro ⟨%K, H⟩
  iapply (prog_wp m K c fun _ => bodyPost m c)
  isplitl [H]; · iexact H
  iintro H
  iapply (done_post m c); iexact H

end Cert.A2A
-- ==== Proof.Launch.lean ====
/-
The launch: the cells allocated for all devices at once, their duty tokens dealt to the devices that pay them, and the
whole program's run.
-/
module

public import proofs.«01_k».proof.Proof.Body
public import Idealize.ShloMosaic.Lib.Pipeline.CollectiveSegs
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- The kernel's own semaphores: those of the send and receive cells, and the two receive semaphores no transfer raises. -/
abbrev osem : (TH ⊕ TH) ⊕ Fin 2 → SemLoc sig
  | .inl (.inl p) => .dma (sendS p.1 p.2)
  | .inl (.inr p) => .dma (recvS (hop p.1) p.2)
  | .inr h => .dma (recvS 0 h)

/-- The semaphores listed are those of the kernel, each once. -/
theorem ownSemFacts : Pipeline.OwnSemFacts cfg0.spec osem := by decide

/-- Every array is held whole. -/
theorem share_eq (c : Dev nD) (w : Fin cfg0.W) : (dats m 0 c).share w = fullShare := by unfold Dat.share; split <;> rfl

/-! ## The launch element -/

/-- All cells of the exchange. -/
def cells : Finset (GSem nD τ sig) := Finset.univ.map ⟨cell, cell_injective⟩

/-- The duty tokens by the device that pays them: entry signals to the three others, its own transfers' two ends. -/
abbrev TK : Type := Fin 3 ⊕ (TH ⊕ TH)
/-- A duty token: its cell, its round, its duty. -/
abbrev tokOf (x : Dev nD × TK) : GSem nD τ sig × ℕ × Dev nD := match x.2 with
  | .inl i => (barCell (other x.1 i), 0, x.1)
  | .inr (.inl p) => (sendCell x.1 p.1 p.2, 0, 0)
  | .inr (.inr p) => (recvCell (dest x.1 p.1) p.1 p.2, 0, 0)

/-- A token named by its device and cell, and its duty. -/
def tokIx (x : Dev nD × TK) : (Dev nD × CK) × Dev nD := match x.2 with
  | .inl i => ((other x.1 i, .inl ()), x.1)
  | .inr (.inl p) => ((x.1, .inr (.inl p)), 0)
  | .inr (.inr p) => ((dest x.1 p.1, .inr (.inr p)), 0)
/-- The two ways to name a token agree. -/
theorem tokOf_eq (x : Dev nD × TK) : tokOf x = (cell (tokIx x).1, 0, (tokIx x).2) := by
  obtain ⟨c, i | p | p⟩ := x <;> rfl
/-- Different tokens have different names, -/
theorem tokIx_injective : Function.Injective tokIx := by
  rintro ⟨c, i | p | p⟩ ⟨c', i' | p' | p'⟩ e
  · have h1 : c = c' := congrArg (·.2) e
    subst h1
    have h2 : other c i = other c i' := congrArg (·.1.1) e
    rw [Fin.succAbove_right_injective h2]
  · exact absurd (congrArg (·.1.2) e) (fun h => nomatch h)
  · exact absurd (congrArg (·.1.2) e) (fun h => nomatch h)
  · exact absurd (congrArg (·.1.2) e) (fun h => nomatch h)
  · have h1 : c = c' := congrArg (·.1.1) e
    have h2 : p = p' := Sum.inl.inj (Sum.inr.inj (congrArg (·.1.2) e))
    rw [h1, h2]
  · exact absurd (congrArg (·.1.2) e) (fun h => nomatch h)
  · exact absurd (congrArg (·.1.2) e) (fun h => nomatch h)
  · exact absurd (congrArg (·.1.2) e) (fun h => nomatch h)
  · have h2 : p = p' := Sum.inr.inj (Sum.inr.inj (congrArg (·.1.2) e))
    subst h2
    have h1 : dest c p.1 = dest c' p.1 := congrArg (·.1.1) e
    rw [← orig_dest c p.1, h1, orig_dest]
/-- and so are different. -/
theorem tokOf_injective : Function.Injective tokOf := fun x y e => by
  rw [tokOf_eq, tokOf_eq] at e
  exact tokIx_injective (Prod.ext (cell_injective (congrArg Prod.fst e)) (congrArg (·.2.2) e))
/-- All duty tokens. -/
def toks : Finset (GSem nD τ sig × ℕ × Dev nD) := Finset.univ.map ⟨tokOf, tokOf_injective⟩

/-- The ghost element of the launch: the pipeline's, and the cells and tokens of the exchange. -/
def u₀ : UU := (initOf (Pipeline.cells cfgs cellOf_inj) (Pipeline.launchToks cfgs cellOf_inj), initOf cells toks)

/-- The duty tokens device `c` pays with. -/
def payToks (c : Dev nD) : sProp 𝕄 :=
  iprop((bigSep Finset.univ fun i : Fin 3 => dutyTok ER (barCell (other c i)) 0 c)
    ∗ (bigSep Finset.univ fun p : TH => dutyTok ER (sendCell c p.1 p.2) 0 0)
    ∗ (bigSep Finset.univ fun p : TH => dutyTok ER (recvCell (dest c p.1) p.1 p.2) 0 0))

/-- What the launch element deals device `c`. -/
def G (c : Dev nD) : sProp 𝕄 :=
  iprop((bigSep Finset.univ fun k : CK => roundState ER (sch m) (cell (c, k)) 0)
    ∗ (bigSep Finset.univ fun k : CK => iprop(atPos ER (cell (c, k)) 0 ∅ 0 ∗ reached ER (cell (c, k)) 0)) ∗ payToks c)
/-- What the global step makes of it. -/
def G' (c : Dev nD) : sProp 𝕄 := iprop(∃ K, ghost m K c)

/-- The launch element is dealt out to the devices. -/
theorem fund_cells : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : CK => Φ (cell (c, k)) := by
    unfold cells; rw [bigSep_map, bigSep_univ_prod]; rfl
  have hT : bigSep toks (fun x => (dutyTok ER x.1 x.2.1 x.2.2 : sProp 𝕄)) = bigSep Finset.univ fun c : Dev nD => payToks c := by
    unfold toks; rw [bigSep_map, bigSep_univ_prod]
    exact bigSep_congr fun c _ => by unfold payToks; rw [bigSep_univ_sum, bigSep_univ_sum]; rfl
  iintro HX
  imod (Rounds.fund ER (sch m) cells toks) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The cells allocated -/

omit [FloatOps F] in
/-- The kernel's own semaphores at zero: send cells, receive cells and the two spare ones; -/
theorem ownSems0_eq (c : Dev nD) : (Pipeline.ownSems0 (Ix := Unit) (Name := ℕ) (U := UU) (Lvl := ℕ) (Val := Elt F) (τ := τ) osem c : sProp 𝕄)
    = iprop(((bigSep Finset.univ fun p : TH => semVal (sendCell c p.1 p.2) 0) ∗ (bigSep Finset.univ fun p : TH => semVal (recvCell c p.1 p.2) 0))
        ∗ (bigSep Finset.univ fun h : Fin 2 => semVal ((c : Thread nD τ), .dma (recvS 0 h)) 0)) := by
  unfold Pipeline.ownSems0; rw [bigSep_univ_sum, bigSep_univ_sum]; rfl
omit [FloatOps F] in
/-- the one semaphore that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A conjunction over one index; -/
theorem sep_unit (Φ : Unit → sProp 𝕄) : bigSep Finset.univ Φ = Φ () := bigSep_univ_of_subsingleton ()

omit [FloatOps F] in
/-- and one over the cells of a device. -/
theorem sep_CK (Φ : CK → sProp 𝕄) : bigSep Finset.univ Φ
    = iprop(Φ (.inl ()) ∗ (bigSep Finset.univ fun p : TH => Φ (.inr (.inl p))) ∗ (bigSep Finset.univ fun p : TH => Φ (.inr (.inr p)))) := by
  rw [bigSep_univ_sum, bigSep_univ_sum, sep_unit]; rfl

/-- The two receive semaphores of `c` that no transfer raises. -/
def spare (c : Dev nD) : sProp 𝕄 := bigSep Finset.univ fun h : Fin 2 => semVal ((c : Thread nD τ), .dma (recvS 0 h)) 0

omit [FloatOps F] in
/-- All these semaphores at zero are the cells of the device at zero, and the spare ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (cell (c, k)) 0) ∗ spare c) : sProp 𝕄) := by
  unfold spare
  rw [ownSems0_eq, unscopedSems0_eq, sep_CK]
  iintro ⟨⟨⟨HS, HV⟩, Hz⟩, HB⟩
  isplitr [Hz]
  · isplitl [HB]; · iexact HB
    isplitl [HS]; · iexact HS
    iexact HV
  iexact Hz

/-- With them each device allocates the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sch m) κ (cell (c, k))))
          ∗ (bigSep Finset.univ fun k : CK => iprop(atPos ER (cell (c, k)) 0 ∅ 0 ∗ reached ER (cell (c, k)) 0)) ∗ payToks c ∗ spare c) := by
  unfold G
  iintro ⟨Hos, Hus, Hst, Hat, Htok⟩
  ihave Hv := (sems0_eq (F := F) c) $$ [Hos Hus]
  · isplitl [Hos]; · iexact Hos
    iexact Hus
  icases Hv with ⟨Hv, Hz⟩
  imod (show iprop((bigSep Finset.univ fun k : CK => semVal (cell (c, k)) 0) ∗ bigSep Finset.univ fun k : CK => roundState ER (sch m) (cell (c, k)) 0)
      ⊢ (|={Set.univ}=> bigSep Finset.univ fun k => iprop(∃ κ : ℕ, cellInv ER (sch m) κ (cell (c, k))) : sProp 𝕄) from by
        rw [← bigSep_sep']
        exact (bigSep_mono fun k _ => (Rounds.body_intro ER (sch m) (cell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hz

/-- What every device may use: all cells' invariants, and that every cell has reached its one round. -/
def records (K : Dev nD × CK → ℕ) : sProp 𝕄 :=
  iprop((bigSep Finset.univ fun x : Dev nD × CK => inv m K x) ∗ bigSep Finset.univ fun x : Dev nD × CK => reached ER (cell x) 0)
/-- These facts can be used any number of times; -/
instance records_persistent (K : Dev nD × CK → ℕ) : BI.Persistent (records m K) := by unfold records; infer_instance

/-- they hold each cell's invariant, -/
theorem inv_at (K : Dev nD × CK → ℕ) (x : Dev nD × CK) : records m K ⊢ inv m K x := by
  unfold records; exact (show iprop(_ ∗ _) ⊢ _ from by iintro ⟨H, -⟩; iexact H).trans (bigSep_elim (Φ := fun x : Dev nD × CK => (inv m K x : sProp 𝕄)) (Finset.mem_univ x))
/-- and that it has reached its round. -/
theorem reached_at (K : Dev nD × CK → ℕ) (x : Dev nD × CK) : records m K ⊢ reached ER (cell x) 0 := by
  unfold records; exact (show iprop(_ ∗ _) ⊢ _ from by iintro ⟨-, H⟩; iexact H).trans (bigSep_elim (Φ := fun x : Dev nD × CK => (reached ER (cell x) 0 : sProp 𝕄)) (Finset.mem_univ x))

omit [FloatOps F] in
/-- A persistent fact joined to every conjunct. -/
theorem sep_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- What stays with device `c`: its positions, the tokens it pays with, its two spare semaphores. -/
def linear (c : Dev nD) : sProp 𝕄 :=
  iprop((bigSep Finset.univ fun k : CK => atPos ER (cell (c, k)) 0 ∅ 0) ∗ payToks c ∗ spare c)

/-- From what all may use and what stays with it, a device has its ghost state. -/
theorem ghost_intro (K : Dev nD × CK → ℕ) (c : Dev nD) : iprop(records m K ∗ linear c) ⊢ G' m c := by
  unfold linear payToks G' ghost spare
  rw [sep_CK]
  iintro ⟨#HR, ⟨HaB, HaS, HaV⟩, ⟨HtB, HtS, HtV⟩, Hz⟩
  iexists K
  isplitl [HtB]
  · iapply (sep_with (R := records m K) (Φ := fun i : Fin 3 => dutyTok ER (barCell (other c i)) 0 c) fun i => show _ ⊢ sigKit m K c (other c i) from by
      unfold sigKit
      iintro ⟨#HR, Ht⟩
      isplitr; · iapply (inv_at m K (other c i, .inl ())); iexact HR
      isplitr; · iapply (reached_at m K (other c i, .inl ())); iexact HR
      iexact Ht)
    isplitr; · iexact HR
    iexact HtB
  isplitl [HaB]
  · isplitr; · iapply (inv_at m K (c, .inl ())); iexact HR
    iexact HaB
  isplitl [HtS HtV]
  · iapply (sep_with (R := records m K) (Φ := fun p : TH => iprop(dutyTok ER (sendCell c p.1 p.2) 0 0 ∗ dutyTok ER (recvCell (dest c p.1) p.1 p.2) 0 0))
      fun p => show _ ⊢ sendKit m K c p.1 p.2 from by
        unfold sendKit
        iintro ⟨#HR, Ht, Ht'⟩
        isplitr; · iapply (inv_at m K (c, .inr (.inl p))); iexact HR
        isplitr; · iapply (inv_at m K (dest c p.1, .inr (.inr p))); iexact HR
        isplitl [Ht]; · iexact Ht
        isplitr; · iapply (reached_at m K (c, .inr (.inl p))); iexact HR
        isplitl [Ht']; · iexact Ht'
        iapply (reached_at m K (dest c p.1, .inr (.inr p))); iexact HR)
    isplitr; · iexact HR
    rw [bigSep_sep']
    isplitl [HtS]; · iexact HtS
    iexact HtV
  isplitl [HaV]
  · iapply (sep_with (R := records m K) (Φ := fun p : TH => atPos ER (recvCell c p.1 p.2) 0 ∅ 0)
      fun p => show _ ⊢ iprop(inv m K (c, .inr (.inr p)) ∗ atPos ER (recvCell c p.1 p.2) 0 ∅ 0) from by
        iintro ⟨#HR, Ha⟩
        isplitr; · iapply (inv_at m K (c, .inr (.inr p))); iexact HR
        iexact Ha)
    isplitr; · iexact HR
    iexact HaV
  isplitl [HaS]
  · iapply (sep_with (R := records m K) (Φ := fun p : TH => atPos ER (sendCell c p.1 p.2) 0 ∅ 0)
      fun p => show _ ⊢ drainKit m K c p.1 p.2 from by
        unfold drainKit
        iintro ⟨#HR, Ha⟩
        isplitr; · iapply (inv_at m K (c, .inr (.inl p))); iexact HR
        iexact Ha)
    isplitr; · iexact HR
    iexact HaS
  iexact Hz

/-- The invariants that the devices allocated are shared out to all of them. -/
theorem regroup :
    (bigSep Finset.univ fun c : Dev nD => iprop((bigSep Finset.univ fun k : CK => iprop(∃ κ : ℕ, cellInv ER (sch m) κ (cell (c, k))))
          ∗ (bigSep Finset.univ fun k : CK => iprop(atPos ER (cell (c, k)) 0 ∅ 0 ∗ reached ER (cell (c, k)) 0)) ∗ payToks c ∗ spare c) : sProp 𝕄)
      ⊢ bigSep Finset.univ (G' m) := by
  rw [bigSep_sep', bigSep_sep', ← bigSep_univ_prod (fun x : Dev nD × CK => iprop(∃ κ : ℕ, cellInv ER (sch m) κ (cell x))),
    bigSep_congr (s := Finset.univ) (fun (c : Dev nD) _ => bigSep_sep' Finset.univ (fun k : CK => (atPos ER (cell (c, k)) 0 ∅ 0 : sProp 𝕄)) (fun k => reached ER (cell (c, k)) 0)),
    bigSep_sep', ← bigSep_univ_prod (fun x : Dev nD × CK => (reached ER (cell x) 0 : sProp 𝕄))]
  iintro ⟨HI, ⟨Hat, #HR⟩, Htok⟩
  ihave HK := (BI.bigSep_exists_pi Finset.univ (fun (x : Dev nD × CK) (κ : ℕ) => (cellInv ER (sch m) κ (cell x) : sProp 𝕄))) $$ HI
  icases HK with ⟨%K, #HI⟩
  iapply (sep_with (R := records m K) (Φ := fun c : Dev nD => linear c) fun c => ghost_intro m K c)
  isplitr
  · unfold records inv; isplitl; · iexact HI
    iexact HR
  · unfold linear; simp only [bigSep_sep']
    isplitl [Hat]; · iexact Hat
    iexact Htok

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Two cells are the same if their device and kind are. -/
theorem cell_eq_iff (x y : Dev nD × CK) : (cell x = cell y) = (x = y) := propext cell_injective.eq_iff

/-- What device `d` owes a cell of the exchange: counted over its entry signals and its transfers. -/
theorem owed_at (d : Dev nD) (x : Dev nD × CK) :
    O₀ d (cell x) () = (([(0 : Fin 3), 1, 2].map fun i => if x = (other d i, .inl ()) then 1 else 0).sum : ℕ)
      + N * (order.map fun p => if x = (dest d p.1, .inr (.inr p)) then 1 else 0).sum := by
  unfold O₀
  rw [sumO_apply, List.map_append, List.sum_append, List.map_map, List.map_map, ← List.sum_map_mul_left]
  congr 2
  · exact List.map_congr_left fun i _ => by
      show (if cell x = cell (other d i, .inl ()) then 1 else 0) = _
      simp only [cell_eq_iff]
  · exact List.map_congr_left fun p _ => by
      show (if cell x = cell (dest d p.1, .inr (.inr p)) then N else 0) = N * (if x = (dest d p.1, .inr (.inr p)) then 1 else 0)
      simp only [cell_eq_iff, mul_ite, mul_one, mul_zero]

/-- How often the devices' entry signals, and their transfers, raise a cell. -/
theorem count_bar (c : Dev nD) : (∑ d : Dev nD, ([(0 : Fin 3), 1, 2].map fun i => if ((c, .inl ()) : Dev nD × CK) = (other d i, .inl ()) then 1 else 0).sum) = 3
    ∧ (∑ d : Dev nD, (order.map fun p => if ((c, .inl ()) : Dev nD × CK) = (dest d p.1, .inr (.inr p)) then 1 else 0).sum) = 0 := by
  revert c; decide
/-- A receive cell is raised by one transfer and by no entry signal. -/
theorem count_recv (c : Dev nD) (q : TH) :
    (∑ d : Dev nD, ([(0 : Fin 3), 1, 2].map fun i => if ((c, .inr (.inr q)) : Dev nD × CK) = (other d i, .inl ()) then 1 else 0).sum) = 0
    ∧ (∑ d : Dev nD, (order.map fun p => if ((c, .inr (.inr q)) : Dev nD × CK) = (dest d p.1, .inr (.inr p)) then 1 else 0).sum) = 1 := by
  revert c q; decide

/-- The launch credit of a cell is what all devices together owe it. -/
theorem launch_at (x : Dev nD × CK) (n k : ℕ)
    (hn : (∑ d : Dev nD, ([(0 : Fin 3), 1, 2].map fun i => if x = (other d i, .inl ()) then 1 else 0).sum) = n)
    (hk : (∑ d : Dev nD, (order.map fun p => if x = (dest d p.1, .inr (.inr p)) then 1 else 0).sum) = k) :
    tallyOn (cell x) (launchCredit (Pipeline.owing O₀) 0 (cell x)) = (tallyAt (cell x) () (n + N * k) : CellTallies nD τ sig Unit) := by
  unfold tallyAt; refine congrArg _ (Finsupp.ext fun u => ?_); cases u
  rw [Pipeline.launchCredit_owing, Finsupp.single_eq_same, Finset.sum_congr rfl fun d _ => owed_at d x, Finset.sum_add_distrib, ← Finset.mul_sum, hn, hk]

/-- The receive semaphores, as an embedding of the transfers. -/
def recvEmb : TH ↪ SemLoc sig := ⟨fun p => .dma (recvS (hop p.1) p.2), by decide⟩

omit [FloatOps F] in
/-- So each device gets the credit of its cells. -/
theorem creds (c : Dev nD) : (Pipeline.launchCred O₀ c : sProp 𝕄) ⊢ credits c := by
  unfold Pipeline.launchCred credits
  have hB := launch_at (c, .inl ()) 3 0 (count_bar c).1 (count_bar c).2
  have hR (p : TH) := launch_at (c, .inr (.inr p)) 0 1 (count_recv c p).1 (count_recv c p).2
  simp only [Nat.mul_zero, Nat.add_zero, Nat.mul_one, Nat.zero_add] at hB hR
  rw [bigSep_univ_at _ (SemLoc.reg barS)]
  refine BI.sep_mono (Entails.of_eq (congrArg cred hB)) ?_
  refine (BI.bigSep_subset (t := Finset.univ.map recvEmb) (fun q hq => ?_)).trans ?_
  · obtain ⟨p, -, rfl⟩ := Finset.mem_map.mp hq
    exact Finset.mem_erase.mpr ⟨fun e => (nomatch e), Finset.mem_univ _⟩
  · rw [bigSep_map]
    exact bigSep_mono fun p _ => Entails.of_eq (congrArg cred (hR p))

/-! ## The side conditions -/

/-- What the launch gives a device is what it starts from; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- with the scratch buffers it is the state at the start; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- and the state at the end gives back the scratch buffers and the semaphores, at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scr
  iintro ⟨Hr0, Hr1, HzB, HzS, HzV, Hz⟩
  isplitl [HzB]; · iexact HzB
  isplitl [HzS HzV Hz]
  · isplitr [Hz]
    · isplitl [HzS]; · iexact HzS
      iexact HzV
    iexact Hz
  isplitl [Hr0]; · iexact Hr0
  iexact Hr1

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What an array of device `c` holds after the run. -/
def finalA (c : Dev nD) (w : Fin cfg0.W) : Buf (Elt F) ((cfg0.win w).arr.view.loc (c : Thread nD τ)) := (dats m 0 c).arrAt w cfg0.N

/-- Every array of every device ends at those contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the mesh of four devices, for any float values, from any memory with zero counters: every weakly fair execution of
    the four kernels terminates, and every final state has each device's arrays at the named contents and every semaphore
    counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- After the run device `c`'s block of `x` holds what it held; -/
theorem finalA_x (c : Dev nD) : finalA m c (0 : Fin 3) = (s₀ m ρ).mem (win0_0.arr.view.loc (c : Thread nD τ)) :=
  (dats (F := F) m 0 c).arrAt_in (0 : Fin 3) rfl _
/-- so does its copy of the weights; -/
theorem finalA_w (c : Dev nD) : finalA m c (1 : Fin 3) = (s₀ m ρ).mem (win0_1.arr.view.loc (c : Thread nD τ)) :=
  (dats (F := F) m 0 c).arrAt_in (1 : Fin 3) rfl _
/-- and its result is what its output window was left at. -/
theorem finalA_out (c : Dev nD) : finalA m c (2 : Fin 3) = outF m c :=
  (dats m 0 c).arrAt_eq_of_after_last (2 : Fin 3) t₀ (by decide +kernel) (outF m c) fun _ => rfl

end Cert.A2A
-- ==== Proof.Value.lean ====
/-
The value: over the extended reals each device's result is its block of columns of silu of the product.
-/
module

public import proofs.«01_k».proof.Proof.Launch
public import Idealize.ShloMosaic.Lib.Pointwise
public import Idealize.ShloMosaic.Lib.Layout

@[expose] public section

noncomputable section

namespace Cert.A2A

open Cert.KernelIdeal Cert.KernelIdeal.Gen

open Idealize.ShloMosaic
open Idealize.ShloMosaic.TcCoe

section
variable {F : FTy → Type} [FloatOps F]
variable (m : (ℓ : Loc nD τ sig) → Buf (Elt F) ℓ)

/-- The staged block of `x` is the device's whole argument; -/
theorem xstg_eq (c : Dev nD) : xstg m c = m ((c : Thread nD τ).loc main_arg0) := by
  funext i
  unfold xstg
  rw [View.read_apply]
  refine congrArg (m ((c : Thread nD τ).loc main_arg0)) (funext fun a => ?_)
  exact Fin.ext (Pipeline.Window.rect_emb_val_of_index_zero win0_0 (0 : Fin 1) a rfl i)

/-- and the staged weights are its whole copy of them. -/
theorem wstg_eq (c : Dev nD) : wstg m c = m ((c : Thread nD τ).loc main_arg1) := by
  funext i
  unfold wstg
  rw [View.read_apply]
  refine congrArg (m ((c : Thread nD τ).loc main_arg1)) (funext fun a => ?_)
  exact Fin.ext (Pipeline.Window.rect_emb_val_of_index_zero win0_1 (0 : Fin 1) a rfl i)
end

/-! ## silu -/

/-- `y / (1 + e^(-y))` over the extended reals. -/
def silu (y : EReal) : EReal := Ideal.div y (1 + Ideal.exp (-y))

/-- The divisor of silu is never zero. -/
theorem one_add_exp_ne (y : EReal) : 1 + Ideal.exp y ≠ 0 := by
  have h : (0 : EReal) ≤ Ideal.exp y := by
    induction y with
    | bot => simp
    | top => simp
    | coe r => rw [Ideal.exp_coe]; exact EReal.coe_nonneg.mpr (Real.exp_pos r).le
  exact ne_of_gt (lt_of_lt_of_le zero_lt_one (le_add_of_nonneg_right h))

/-- The kernel multiplies by the logistic; the reference divides. -/
theorem mul_logistic (y : EReal) : y * Ideal.logistic y = silu y := by
  unfold Ideal.logistic silu Ideal.div
  rw [if_neg (one_add_exp_ne _), if_neg (one_add_exp_ne _), one_mul]

/-- An entry of the product of two square arrays. -/
def prod (X W : S1024x1024.Idx → EReal) (r c : Fin 1024) : EReal := ∑ k : Fin 1024, X (ix2 r k) * W (ix2 k c)

/-! ## The half blocks -/

/-- The half block that is sent, at an entry; -/
theorem pay2_apply (x : Vec Ideal S256x1024 .bf16) (w : Vec Ideal S1024x128 .bf16) (r : Fin 256) (c : Fin 128) :
    shapeCast S256x128 (k0_pay2 (F := Ideal) x w) shapeCasts_S1x256x128_S256x128 (ix2 r c)
      = silu (∑ k : Fin 1024, x (ix2 r k) * w (ix2 k c)) := by
  rw [← mul_logistic]
  unfold k0_pay2 k0_pay1
  pointwise

/-- and the one that is kept. -/
theorem pay10_apply (x : Vec Ideal S256x1024 .bf16) (w : Vec Ideal S1024x128 .bf16) (r : Fin 256) (c : Fin 128) :
    k0_pay10 (F := Ideal) (k0_pay1 x) w (ix2 r c) = silu (∑ k : Fin 1024, x (ix2 r k) * w (ix2 k c)) := by
  rw [← mul_logistic]
  unfold k0_pay10 k0_pay1
  pointwise

section
variable (m : (ℓ : Loc nD τ sig) → Buf (Elt Ideal) ℓ)

/-- Either way an entry of the half block that `s` computes for `c`. -/
theorem outBlk_apply (c s : Dev nD) (h : Fin 2) (r : Fin 256) (l : Fin 128) :
    outBlk m c s h (ix2 r l) = silu (∑ k : Fin 1024, xstg m s (ix2 r k) * wcols m s c h (ix2 k l)) := by
  unfold outBlk
  split
  · next e => subst e; exact pay10_apply _ _ r l
  · exact pay2_apply _ _ r l

/-- The columns of the weights that `s` uses for half `h` of the block of `c` are those of that half of that block. -/
theorem wcols_apply (s c : Dev nD) (h : Fin 2) (k : Fin 1024) (l : Fin 128) (l' : Fin 1024) (hl : l'.val = 256 * c.val + 128 * h.val + l.val) :
    wcols m s c h (ix2 k l) = wstg m s (ix2 k l') := by
  refine congrArg (wstg m s) (funext fun a => ?_)
  match a with
  | ⟨0, _⟩ => exact Fin.ext (show 0 + 1 * k.val = k.val by omega)
  | ⟨1, _⟩ => exact Fin.ext (show 256 * c.val + 128 * h.val + 1 * l.val = l'.val by omega)

/-- If the devices hold the row blocks of `X` and copies of `W`, the result of `c` is its block of columns of silu of
    their product. -/
theorem outF_apply (X W : S1024x1024.Idx → EReal)
    (hX : ∀ s : Dev nD, m ((s : Thread nD τ).loc main_arg0) = Layout.block S256x1024 S1024x1024 0 4 s X)
    (hW : ∀ s : Dev nD, m ((s : Thread nD τ).loc main_arg1) = W) (c : Dev nD) (r : Fin 1024) (l : Fin 256) (l' : Fin 1024)
    (hl : l'.val = 256 * c.val + l.val) :
    outF m c (ix2 r l) = silu (prod X W r l') := by
  have hr : r.val / 256 < 4 := by have := r.isLt; omega
  have e : outF m c (ix2 r l) = outBlk m c ⟨r.val / 256, hr⟩ (halfOf l.val l.isLt)
      (ix2 ⟨r.val % 256, Nat.mod_lt _ (by decide)⟩ ⟨l.val % 128, Nat.mod_lt _ (by decide)⟩) := by
    refine congrArg (outBlk m c ⟨r.val / 256, hr⟩ (halfOf l.val l.isLt)) (funext fun a => ?_)
    match a with
    | ⟨0, _⟩ => rfl
    | ⟨1, _⟩ => rfl
  rw [e, outBlk_apply]
  unfold prod
  refine congrArg silu (Finset.sum_congr rfl fun k _ => ?_)
  rw [wcols_apply m _ c _ k _ l' (by show l'.val = 256 * c.val + 128 * (l.val / 128) + l.val % 128; omega), xstg_eq, wstg_eq, hX, hW, Layout.block_apply]
  refine congrArg (fun i => X i * W (ix2 k l')) (funext fun a => ?_)
  match a with
  | ⟨0, _⟩ =>
    refine Fin.ext ((Layout.idx_rows_val _ _ _).1.trans ?_)
    show r.val / 256 * 256 + r.val % 256 = r.val
    omega
  | ⟨1, _⟩ => exact Fin.ext ((Layout.idx_rows_val _ _ _).2)

end
end Cert.A2A
-- ==== Proof.Ref.lean ====
/-
The references: what their runs leave, entry by entry.
-/
module

public import proofs.«01_k».proof.Proof.Value
public import proofs.«01_k».proof.Proof.Gen.ReferenceIdeal.Run
public import proofs.«01_k».proof.Proof.Gen.ClippedIdeal.Run
public import proofs.«01_k».proof.Proof.Gen.On_clip_is_idle

@[expose] public section

noncomputable section

namespace Cert.A2A

open Idealize.ShloMosaic
open Idealize.ShloMosaic.TcCoe

/-! ## The clip -/

/-- The clip's lower bound is its upper bound negated. -/
theorem lo_hi : Ideal.ofBits .f32 0xC2700000#32 = -Ideal.ofBits .f32 0x42700000#32 := by
  simp [Ideal.ofBits, Ideal.ieee]

/-- A decided statement whose bit is set holds. -/
theorem of_bool {p : Prop} [Decidable p] (h : BitVec.ofBool (decide p) = 1#1) : p := by
  by_contra hp
  rw [decide_eq_false hp] at h
  exact absurd h (by decide)

/-- The clip leaves a value of at most the bound's size as it is. -/
theorem clip_idle {y : EReal} (h : (FloatOps.absf (F := Ideal) (φ := .f32) y : EReal) ≤ Ideal.ofBits .f32 0x42700000#32) :
    min (Ideal.ofBits .f32 0x42700000#32) (max (Ideal.ofBits .f32 0xC2700000#32) y) = y := by
  have h' : max y (-y) ≤ Ideal.ofBits .f32 0x42700000#32 := h
  rw [lo_hi, max_eq_right (EReal.neg_le.mp ((le_max_right _ _).trans h')), min_eq_right ((le_max_left _ _).trans h')]

namespace Plain
open Cert.ReferenceIdeal Cert.ReferenceIdeal.Gen

/-- The plain reference's result. -/
def val (X W : Vec Ideal S1024x1024 .bf16) : Vec Ideal S1024x1024 .f32 :=
  Host.divf (F := Ideal) (φ := .f32) (Host.dotGeneral dot_S1024x1024_S1024x1024_S1024x1024_1_0_0_1_n_n none (extf .f32 X bitsLt_bf16_f32) (extf .f32 W bitsLt_bf16_f32)) (addf (broadcastInDim S1024x1024 ![] bcast_S_S1024x1024 (constant S_ .f32 0x3F800000#32)) (Host.exp (Host.negf (Host.dotGeneral dot_S1024x1024_S1024x1024_S1024x1024_1_0_0_1_n_n none (extf .f32 X bitsLt_bf16_f32) (extf .f32 W bitsLt_bf16_f32)))))

/-- An entry of it is silu of that entry of the product. -/
theorem val_apply (X W : Vec Ideal S1024x1024 .bf16) (r c : Fin 1024) : val X W (ix2 r c) = silu (prod X W r c) := by
  unfold val silu prod
  pointwise
end Plain

namespace Clip
open Cert.ClippedIdeal Cert.ClippedIdeal.Gen

/-- The clipped reference's result. -/
def val (X W : Vec Ideal S1024x1024 .bf16) : Vec Ideal S1024x1024 .f32 :=
  Host.divf (F := Ideal) (φ := .f32) (Host.dotGeneral dot_S1024x1024_S1024x1024_S1024x1024_1_0_0_1_n_n none (extf .f32 X bitsLt_bf16_f32) (extf .f32 W bitsLt_bf16_f32)) (addf (broadcastInDim S1024x1024 ![] bcast_S_S1024x1024 (constant S_ .f32 0x3F800000#32)) (Host.exp (Host.negf (minimumf (broadcastInDim S1024x1024 ![] bcast_S_S1024x1024 (id (constant S_ .f32 0x42700000#32))) (maximumf (broadcastInDim S1024x1024 ![] bcast_S_S1024x1024 (id (constant S_ .f32 0xC2700000#32))) (Host.dotGeneral dot_S1024x1024_S1024x1024_S1024x1024_1_0_0_1_n_n none (extf .f32 X bitsLt_bf16_f32) (extf .f32 W bitsLt_bf16_f32)))))))

/-- Where the mask is set, so is an entry of this one. -/
theorem val_apply (X W : Vec Ideal S1024x1024 .bf16) (r c : Fin 1024)
    (h : Cert.On_clip_is_idle.fn (F := Ideal) X W (ix2 r c) = 1#1) : val X W (ix2 r c) = silu (prod X W r c) := by
  unfold Cert.On_clip_is_idle.fn at h
  unfold val silu prod
  pointwise
  pointwise at h
  exact congrArg (fun z => Ideal.div (∑ x, X (ix2 r x) * W (ix2 x c)) (1 + Ideal.exp (-z)))
    (clip_idle (of_bool h))
end Clip

end Cert.A2A
-- ==== Proof.Same.lean ====
/-
The kernel as printed and the kernel as printed for the extended reals are one program: no operation was rewritten.
-/
module

public import proofs.«01_k».proof.Proof.Launch
public import proofs.«01_k».proof.Proof.Gen.Kernel

@[expose] public section

noncomputable section

namespace Cert.A2A

open Idealize.ShloMosaic Idealize.SL.Sem

variable {F : FTy → Type} [FloatOps F]

set_option maxRecDepth 8000 in
/-- The two bodies are one text; -/
theorem body_same : @Cert.Kernel.cc0_body F _ _ = @Cert.KernelIdeal.cc0_body F _ _ := by
  unfold Cert.Kernel.cc0_body Cert.KernelIdeal.cc0_body
  rfl

/-- so are the tables that call them; -/
theorem defs₀_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  match l with
  | 0 => rfl

/-- and the tables with the launch. -/
theorem defs_same : Cert.Kernel.defs (F := F) = Cert.KernelIdeal.defs (F := F) :=
  congrArg (Pipeline.defs _) defs₀_same

/-- What is proved of a run of the one holds of a run of the other. -/
theorem run_kernel (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => QC m r ∧ r.2.sem = fun _ => 0) := by
  rw [defs_same]
  exact run_main m ρ

end Cert.A2A
-- ==== Proof.lean ====
/-
The proof of `Cert.Claim`: the frames of the four programs, and the kernel's value against the two references.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.On_clip_is_idle
public import proofs.«01_k».proof.Proof.Gen.ClippedIdeal.Run
public import proofs.«01_k».proof.Proof.Ref
public import proofs.«01_k».proof.Proof.Same
public import Idealize.ShloMosaic.Adequacy
public import Idealize.ShloMosaic.Init

@[expose] public section

noncomputable section

namespace Cert.Proof

open Idealize.ShloMosaic Idealize.SL.Sem Cert.A2A

/-! ## The frames -/

/-- The kernel at the bits: it terminates without a fault, keeps its arguments, and leaves every counter at zero. -/
theorem frame_kernel : Cert.quiescent_Kernel := fun m ρ _ =>
  (θ_run Cert.Kernel.defs _ _).mono
    (fun _ h => ⟨fun c => ⟨(h.1 c (0 : Fin 3)).trans (finalA_x m ρ c), (h.1 c (1 : Fin 3)).trans (finalA_w m ρ c)⟩, h.2⟩)
    (run_kernel (F := Bits) m ρ)

/-- The same of the kernel over the extended reals. -/
theorem frame_kernelIdeal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- The same of the plain reference, -/
theorem frame_plain : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- and of the clipped one. -/
theorem frame_clipped : Cert.quiescent_ClippedIdeal := fun m ρ _ =>
  (θ_run Cert.ClippedIdeal.defs _ _).mono
    (fun r h => ⟨fun c => (h c).2, sem_eq_zero_of_no_sems (by decide) r.2⟩)
    (Cert.ClippedIdeal.Value.run m ρ)

/-! ## The value -/

/-- Where an entry of column block `c` of a whole array lies in that array. -/
theorem cols_idx (c : Fin 4) (r : Fin 1024) (l : Fin 256) (l' : Fin 1024) (hl : l'.val = 256 * c.val + l.val)
    {α : Type} (V : (⟨2, ![1024, 1024]⟩ : Shape).Idx → α) :
    (Layout.block ⟨2, ![1024, 256]⟩ ⟨2, ![1024, 1024]⟩ 1 4 c V : (⟨2, ![1024, 256]⟩ : Shape).Idx → α) (ix2 r l) = V (ix2 r l') := by
  rw [Layout.block_apply]
  refine congrArg V (funext fun a => ?_)
  match a with
  | ⟨0, _⟩ => exact Fin.ext (Layout.idx_cols_val _ _ _).1
  | ⟨1, _⟩ =>
    refine Fin.ext ((Layout.idx_cols_val _ _ _).2.trans ?_)
    show c.val * 256 + l.val = l'.val
    omega

/-- If an array is silu of the product at each entry that a mask sets, the kernel's result on device `c` is the
    device's part of that array at each entry that its part of the mask sets. -/
theorem result_of (m : (ℓ : Loc Cert.KernelIdeal.nD Cert.KernelIdeal.τ Cert.KernelIdeal.sig) → Buf (Elt Ideal) ℓ)
    (X W V : (⟨2, ![1024, 1024]⟩ : Shape).Idx → EReal) (p : (⟨2, ![1024, 1024]⟩ : Shape).Idx → BitVec 1)
    (hX : ∀ s : Dev Cert.KernelIdeal.nD, m ((s.tc : Thread Cert.KernelIdeal.nD Cert.KernelIdeal.τ).loc Cert.KernelIdeal.main_arg0)
      = Layout.block ⟨2, ![256, 1024]⟩ ⟨2, ![1024, 1024]⟩ 0 4 s X)
    (hW : ∀ s : Dev Cert.KernelIdeal.nD, m ((s.tc : Thread Cert.KernelIdeal.nD Cert.KernelIdeal.τ).loc Cert.KernelIdeal.main_arg1) = W)
    (hV : ∀ r l : Fin 1024, p (ix2 r l) = 1#1 → V (ix2 r l) = silu (prod X W r l)) (c : Fin 4)
    (i : (⟨2, ![1024, 256]⟩ : Shape).Idx)
    (hp : (Layout.block ⟨2, ![1024, 256]⟩ ⟨2, ![1024, 1024]⟩ 1 4 c p : (⟨2, ![1024, 256]⟩ : Shape).Idx → BitVec 1) i = 1#1) :
    outF m c i = (Layout.block ⟨2, ![1024, 256]⟩ ⟨2, ![1024, 1024]⟩ 1 4 c V : (⟨2, ![1024, 256]⟩ : Shape).Idx → EReal) i := by
  obtain ⟨r, l, rfl⟩ : ∃ (r : Fin 1024) (l : Fin 256), i = ix2 r l := ⟨i 0, i 1, eq_ix2 i⟩
  have hlt : 256 * c.val + l.val < 1024 := by have := c.isLt; have := l.isLt; omega
  rw [cols_idx c r l ⟨_, hlt⟩ rfl] at hp
  rw [cols_idx c r l ⟨_, hlt⟩ rfl, hV r _ hp]
  exact outF_apply m X W hX hW c r l ⟨_, hlt⟩ rfl

/-- The kernel computes silu of the product: for all inputs, each device its block of columns. -/
theorem algebraic_plain : Cert.algebraic_KernelIdeal_ReferenceIdeal := fun m ρ m' ρ' _ hin =>
  ⟨Plain.val _ _,
    (θ_run Cert.KernelIdeal.defs _ _).mono
      (fun _ h c => ⟨((h.1 c (2 : Fin 3)).trans (finalA_out m c)).trans
          (funext fun i => result_of m _ _ _ (fun _ => 1#1) (fun s => (hin s).1) (fun s => (hin s).2)
            (fun r l _ => Plain.val_apply _ _ r l) c i rfl),
        (h.1 c (0 : Fin 3)).trans (finalA_x m ρ c), (h.1 c (1 : Fin 3)).trans (finalA_w m ρ c)⟩)
      (run_main (F := Ideal) m ρ),
    (θ_run Cert.ReferenceIdeal.defs _ _).mono (fun _ h => h 0) (Cert.ReferenceIdeal.Value.run m' ρ')⟩

/-- At the entries that the clip leaves as they are, it also computes what the reference with the clip computes. -/
theorem algebraic_clipped : Cert.algebraic_KernelIdeal_ClippedIdeal_on_clip_is_idle := fun m ρ m' ρ' _ hin =>
  ⟨Clip.val _ _,
    (θ_run Cert.KernelIdeal.defs _ _).mono
      (fun _ h c => ⟨fun i hp => (congrFun ((h.1 c (2 : Fin 3)).trans (finalA_out m c)) i).trans
          (result_of m _ _ _ _ (fun s => (hin s).1) (fun s => (hin s).2)
            (fun r l hr => Clip.val_apply _ _ r l hr) c i hp),
        (h.1 c (0 : Fin 3)).trans (finalA_x m ρ c), (h.1 c (1 : Fin 3)).trans (finalA_w m ρ c)⟩)
      (run_main (F := Ideal) m ρ),
    (θ_run Cert.ClippedIdeal.defs _ _).mono (fun _ h => ⟨fun i _ => congrFun (h 0).1 i, (h 0).2⟩)
      (Cert.ClippedIdeal.Value.run m' ρ')⟩

/-- Everything the certificate claims. -/
theorem claim : Cert.Claim :=
  ⟨Cert.Kernel.Gen.facts, Cert.KernelIdeal.Gen.facts, Cert.ReferenceIdeal.Gen.facts, Cert.ClippedIdeal.Gen.facts,
    Cert.On_clip_is_idle.Gen.facts, frame_kernel, frame_kernelIdeal, frame_plain, frame_clipped, trivial,
    algebraic_plain, algebraic_clipped⟩

end Cert.Proof

end
